-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S_ : Shape := ⟨0, ![]⟩
abbrev S4096x8192 : Shape := ⟨2, ![4096, 8192]⟩
abbrev S2x2x128x8192 : Shape := ⟨4, ![2, 2, 128, 8192]⟩
abbrev S2x2 : Shape := ⟨2, ![2, 2]⟩
abbrev S256x512 : Shape := ⟨2, ![256, 512]⟩
abbrev S256x8192 : Shape := ⟨2, ![256, 8192]⟩
abbrev S128x8192 : Shape := ⟨2, ![128, 8192]⟩
abbrev S1x1x128x8192 : Shape := ⟨4, ![1, 1, 128, 8192]⟩
abbrev S1x1 : Shape := ⟨2, ![1, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S_, .bf16⟩
  | .hbm, ⟨3, _⟩ => ⟨S4096x8192, .bf16⟩
  | .hbm, ⟨4, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S2x2x128x8192, .bf16⟩
  | .local _ .vmem, ⟨3, _⟩ => ⟨S2x2x128x8192, .bf16⟩
  | .local _ .vmem, ⟨4, _⟩ => ⟨S2x2x128x8192, .bf16⟩
  | .local _ .vmem, ⟨5, _⟩ => ⟨S2x2x128x8192, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch6 : Ref sig .tc := ⟨.vmem, 4, rfl⟩
abbrev cc0_scratch7 : Ref sig .tc := ⟨.vmem, 5, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_10 : BitVec 32 := 1#32
  let v13 : BitVec 32 := Scalar.muli v5 c1_i32_10
  let v14 : BitVec 32 := Scalar.addi c0_i32_11 v13
  v14.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v15 : BitVec 32 := Scalar.muli v7 c1_i32_13
  let v16 : BitVec 32 := Scalar.addi c0_i32_14 v15
  v16.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v17 : BitVec 32 := Scalar.muli v2 c512_i32
  let v18 : BitVec 32 := Scalar.addi v17 c0_i32_15
  let v19 : Index := Scalar.indexCast v18
  let c0 : Index := 0#32
  ![v19.toNat, 0]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_48 : BitVec 32 := 1#32
  let v51 : BitVec 32 := Scalar.muli v7 c1_i32_48
  let v52 : BitVec 32 := Scalar.addi c0_i32_49 v51
  v52.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_64 : BitVec 32 := 1#32
  let v61 : BitVec 32 := Scalar.muli v5 c1_i32_64
  let v62 : BitVec 32 := Scalar.addi c0_i32_65 v61
  v62.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_80 : BitVec 32 := 1#32
  let v71 : BitVec 32 := Scalar.muli v7 c1_i32_80
  let v72 : BitVec 32 := Scalar.addi c0_i32_81 v71
  v72.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_96 : BitVec 32 := 1#32
  let v81 : BitVec 32 := Scalar.muli v5 c1_i32_96
  let v82 : BitVec 32 := Scalar.addi c0_i32_97 v81
  v82.toNat
def k0_off2 (d0 : Dev nD) (c1_i32_102 : BitVec 32) (c0_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v91 : BitVec 32 := Scalar.subi v2 c1_i32_102
  let c16_i32 : BitVec 32 := 16#32
  let v92 : BitVec 32 := Scalar.addi v91 c16_i32
  let c8_i32_103 : BitVec 32 := 8#32
  let v93 : BitVec 32 := Scalar.remsi v92 c8_i32_103
  let c512_i32_104 : BitVec 32 := 512#32
  let v94 : BitVec 32 := Scalar.muli v93 c512_i32_104
  let v95 : BitVec 32 := Scalar.addi v94 c0_i32_105
  let v96 : Index := Scalar.indexCast v95
  let c0_106 : Index := 0#32
  ![v96.toNat, 0]
def k0_off2_at (r : Fin 14) : BitVec 32 × BitVec 32 :=
  if r.val < 7 then
    if r.val < 3 then
      if r.val < 1 then
        (1#32, 0#32)
      else
        if r.val < 2 then
          (4294967295#32, 256#32)
        else
          (2#32, 0#32)
    else
      if r.val < 5 then
        if r.val < 4 then
          (4294967294#32, 256#32)
        else
          (3#32, 0#32)
      else
        if r.val < 6 then
          (4294967293#32, 256#32)
        else
          (4#32, 0#32)
  else
    if r.val < 10 then
      if r.val < 8 then
        (4294967292#32, 256#32)
      else
        if r.val < 9 then
          (5#32, 0#32)
        else
          (4294967291#32, 256#32)
    else
      if r.val < 12 then
        if r.val < 11 then
          (6#32, 0#32)
        else
          (4294967290#32, 256#32)
      else
        if r.val < 13 then
          (7#32, 0#32)
        else
          (4294967289#32, 256#32)
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_141 : BitVec 32 := 1#32
  let v130 : BitVec 32 := Scalar.muli v5 c1_i32_141
  let v131 : BitVec 32 := Scalar.addi c0_i32_142 v130
  v131.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_166 : BitVec 32 := 1#32
  let v147 : BitVec 32 := Scalar.muli v7 c1_i32_166
  let v148 : BitVec 32 := Scalar.addi c0_i32_167 v147
  v148.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_178 : BitVec 32 := 1#32
  let v149 : BitVec 32 := Scalar.muli v7 c1_i32_178
  let v150 : BitVec 32 := Scalar.addi c0_i32_179 v149
  v150.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_194 : BitVec 32 := 1#32
  let v159 : BitVec 32 := Scalar.muli v5 c1_i32_194
  let v160 : BitVec 32 := Scalar.addi c0_i32_195 v159
  v160.toNat
def k0_dev13 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_223 : BitVec 32 := 1#32
  let v184 : BitVec 32 := Scalar.muli v5 c1_i32_223
  let v185 : BitVec 32 := Scalar.addi c0_i32_224 v184
  v185.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_248 : BitVec 32 := 1#32
  let v201 : BitVec 32 := Scalar.muli v7 c1_i32_248
  let v202 : BitVec 32 := Scalar.addi c0_i32_249 v201
  v202.toNat
def k0_dev15 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_260 : BitVec 32 := 1#32
  let v203 : BitVec 32 := Scalar.muli v7 c1_i32_260
  let v204 : BitVec 32 := Scalar.addi c0_i32_261 v203
  v204.toNat
def k0_dev16 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_276 : BitVec 32 := 1#32
  let v213 : BitVec 32 := Scalar.muli v5 c1_i32_276
  let v214 : BitVec 32 := Scalar.addi c0_i32_277 v213
  v214.toNat
def k0_dev17 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_335 : BitVec 32 := 1#32
  let v268 : BitVec 32 := Scalar.muli v5 c1_i32_335
  let v269 : BitVec 32 := Scalar.addi c0_i32_336 v268
  v269.toNat
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_373 : BitVec 32 := 1#32
  let v291 : BitVec 32 := Scalar.muli v7 c1_i32_373
  let v292 : BitVec 32 := Scalar.addi c0_i32_374 v291
  v292.toNat
def k0_dev19 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_385 : BitVec 32 := 1#32
  let v293 : BitVec 32 := Scalar.muli v7 c1_i32_385
  let v294 : BitVec 32 := Scalar.addi c0_i32_386 v293
  v294.toNat
def k0_dev20 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_401 : BitVec 32 := 1#32
  let v303 : BitVec 32 := Scalar.muli v5 c1_i32_401
  let v304 : BitVec 32 := Scalar.addi c0_i32_402 v303
  v304.toNat
def k0_dev21 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_443 : BitVec 32 := 1#32
  let v334 : BitVec 32 := Scalar.muli v5 c1_i32_443
  let v335 : BitVec 32 := Scalar.addi c0_i32_444 v334
  v335.toNat
def k0_dev22 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_481 : BitVec 32 := 1#32
  let v357 : BitVec 32 := Scalar.muli v7 c1_i32_481
  let v358 : BitVec 32 := Scalar.addi c0_i32_482 v357
  v358.toNat
def k0_dev23 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_493 : BitVec 32 := 1#32
  let v359 : BitVec 32 := Scalar.muli v7 c1_i32_493
  let v360 : BitVec 32 := Scalar.addi c0_i32_494 v359
  v360.toNat
def k0_dev24 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_509 : BitVec 32 := 1#32
  let v369 : BitVec 32 := Scalar.muli v5 c1_i32_509
  let v370 : BitVec 32 := Scalar.addi c0_i32_510 v369
  v370.toNat
def k0_dev25 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_567 : BitVec 32 := 1#32
  let v424 : BitVec 32 := Scalar.muli v5 c1_i32_567
  let v425 : BitVec 32 := Scalar.addi c0_i32_568 v424
  v425.toNat
def k0_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_605 : BitVec 32 := 1#32
  let v447 : BitVec 32 := Scalar.muli v7 c1_i32_605
  let v448 : BitVec 32 := Scalar.addi c0_i32_606 v447
  v448.toNat
def k0_dev27 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_617 : BitVec 32 := 1#32
  let v449 : BitVec 32 := Scalar.muli v7 c1_i32_617
  let v450 : BitVec 32 := Scalar.addi c0_i32_618 v449
  v450.toNat
def k0_dev28 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_633 : BitVec 32 := 1#32
  let v459 : BitVec 32 := Scalar.muli v5 c1_i32_633
  let v460 : BitVec 32 := Scalar.addi c0_i32_634 v459
  v460.toNat
def k0_dev29 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_675 : BitVec 32 := 1#32
  let v490 : BitVec 32 := Scalar.muli v5 c1_i32_675
  let v491 : BitVec 32 := Scalar.addi c0_i32_676 v490
  v491.toNat
def k0_dev30 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_713 : BitVec 32 := 1#32
  let v513 : BitVec 32 := Scalar.muli v7 c1_i32_713
  let v514 : BitVec 32 := Scalar.addi c0_i32_714 v513
  v514.toNat
def k0_dev31 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_725 : BitVec 32 := 1#32
  let v515 : BitVec 32 := Scalar.muli v7 c1_i32_725
  let v516 : BitVec 32 := Scalar.addi c0_i32_726 v515
  v516.toNat
def k0_dev32 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_741 : BitVec 32 := 1#32
  let v525 : BitVec 32 := Scalar.muli v5 c1_i32_741
  let v526 : BitVec 32 := Scalar.addi c0_i32_742 v525
  v526.toNat
def k0_dev33 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_800 : BitVec 32 := 1#32
  let v580 : BitVec 32 := Scalar.muli v5 c1_i32_800
  let v581 : BitVec 32 := Scalar.addi c0_i32_801 v580
  v581.toNat
def k0_dev34 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_838 : BitVec 32 := 1#32
  let v603 : BitVec 32 := Scalar.muli v7 c1_i32_838
  let v604 : BitVec 32 := Scalar.addi c0_i32_839 v603
  v604.toNat
def k0_dev35 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_850 : BitVec 32 := 1#32
  let v605 : BitVec 32 := Scalar.muli v7 c1_i32_850
  let v606 : BitVec 32 := Scalar.addi c0_i32_851 v605
  v606.toNat
def k0_dev36 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_866 : BitVec 32 := 1#32
  let v615 : BitVec 32 := Scalar.muli v5 c1_i32_866
  let v616 : BitVec 32 := Scalar.addi c0_i32_867 v615
  v616.toNat
def k0_dev37 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_908 : BitVec 32 := 1#32
  let v646 : BitVec 32 := Scalar.muli v5 c1_i32_908
  let v647 : BitVec 32 := Scalar.addi c0_i32_909 v646
  v647.toNat
def k0_dev38 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_946 : BitVec 32 := 1#32
  let v669 : BitVec 32 := Scalar.muli v7 c1_i32_946
  let v670 : BitVec 32 := Scalar.addi c0_i32_947 v669
  v670.toNat
def k0_dev39 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_958 : BitVec 32 := 1#32
  let v671 : BitVec 32 := Scalar.muli v7 c1_i32_958
  let v672 : BitVec 32 := Scalar.addi c0_i32_959 v671
  v672.toNat
def k0_dev40 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_974 : BitVec 32 := 1#32
  let v681 : BitVec 32 := Scalar.muli v5 c1_i32_974
  let v682 : BitVec 32 := Scalar.addi c0_i32_975 v681
  v682.toNat
def k0_dev41 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1032 : BitVec 32 := 1#32
  let v736 : BitVec 32 := Scalar.muli v5 c1_i32_1032
  let v737 : BitVec 32 := Scalar.addi c0_i32_1033 v736
  v737.toNat
def k0_dev42 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1070 : BitVec 32 := 1#32
  let v759 : BitVec 32 := Scalar.muli v7 c1_i32_1070
  let v760 : BitVec 32 := Scalar.addi c0_i32_1071 v759
  v760.toNat
def k0_dev43 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1082 : BitVec 32 := 1#32
  let v761 : BitVec 32 := Scalar.muli v7 c1_i32_1082
  let v762 : BitVec 32 := Scalar.addi c0_i32_1083 v761
  v762.toNat
def k0_dev44 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1098 : BitVec 32 := 1#32
  let v771 : BitVec 32 := Scalar.muli v5 c1_i32_1098
  let v772 : BitVec 32 := Scalar.addi c0_i32_1099 v771
  v772.toNat
def k0_dev45 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1140 : BitVec 32 := 1#32
  let v802 : BitVec 32 := Scalar.muli v5 c1_i32_1140
  let v803 : BitVec 32 := Scalar.addi c0_i32_1141 v802
  v803.toNat
def k0_dev46 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1178 : BitVec 32 := 1#32
  let v825 : BitVec 32 := Scalar.muli v7 c1_i32_1178
  let v826 : BitVec 32 := Scalar.addi c0_i32_1179 v825
  v826.toNat
def k0_dev47 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1190 : BitVec 32 := 1#32
  let v827 : BitVec 32 := Scalar.muli v7 c1_i32_1190
  let v828 : BitVec 32 := Scalar.addi c0_i32_1191 v827
  v828.toNat
def k0_dev48 (d0 : Dev nD) : Nat :=
  let c0_i32_1207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1206 : BitVec 32 := 1#32
  let v837 : BitVec 32 := Scalar.muli v5 c1_i32_1206
  let v838 : BitVec 32 := Scalar.addi c0_i32_1207 v837
  v838.toNat
def k0_dev49 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1264 : BitVec 32 := 1#32
  let v892 : BitVec 32 := Scalar.muli v5 c1_i32_1264
  let v893 : BitVec 32 := Scalar.addi c0_i32_1265 v892
  v893.toNat
def k0_dev50 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1302 : BitVec 32 := 1#32
  let v915 : BitVec 32 := Scalar.muli v7 c1_i32_1302
  let v916 : BitVec 32 := Scalar.addi c0_i32_1303 v915
  v916.toNat
def k0_dev51 (d0 : Dev nD) : Nat :=
  let c0_i32_1315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1314 : BitVec 32 := 1#32
  let v917 : BitVec 32 := Scalar.muli v7 c1_i32_1314
  let v918 : BitVec 32 := Scalar.addi c0_i32_1315 v917
  v918.toNat
def k0_dev52 (d0 : Dev nD) : Nat :=
  let c0_i32_1331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1330 : BitVec 32 := 1#32
  let v927 : BitVec 32 := Scalar.muli v5 c1_i32_1330
  let v928 : BitVec 32 := Scalar.addi c0_i32_1331 v927
  v928.toNat
def k0_dev53 (d0 : Dev nD) : Nat :=
  let c0_i32_1373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1372 : BitVec 32 := 1#32
  let v958 : BitVec 32 := Scalar.muli v5 c1_i32_1372
  let v959 : BitVec 32 := Scalar.addi c0_i32_1373 v958
  v959.toNat
def k0_dev54 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1410 : BitVec 32 := 1#32
  let v981 : BitVec 32 := Scalar.muli v7 c1_i32_1410
  let v982 : BitVec 32 := Scalar.addi c0_i32_1411 v981
  v982.toNat
def k0_dev55 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1422 : BitVec 32 := 1#32
  let v983 : BitVec 32 := Scalar.muli v7 c1_i32_1422
  let v984 : BitVec 32 := Scalar.addi c0_i32_1423 v983
  v984.toNat
def k0_dev56 (d0 : Dev nD) : Nat :=
  let c0_i32_1439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1438 : BitVec 32 := 1#32
  let v993 : BitVec 32 := Scalar.muli v5 c1_i32_1438
  let v994 : BitVec 32 := Scalar.addi c0_i32_1439 v993
  v994.toNat
def k0_dev57 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1500 : BitVec 32 := 1#32
  let v1063 : BitVec 32 := Scalar.muli v5 c1_i32_1500
  let v1064 : BitVec 32 := Scalar.addi c0_i32_1501 v1063
  v1064.toNat
def k0_off3 (d0 : Dev nD) (c1_i32_1502 : BitVec 32) (c0_i32_1506 : BitVec 32) (c0_i32_1507 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1065 : BitVec 32 := Scalar.addi v2 c1_i32_1502
  let c8_i32_1503 : BitVec 32 := 8#32
  let v1066 : BitVec 32 := Scalar.addi v1065 c8_i32_1503
  let c8_i32_1504 : BitVec 32 := 8#32
  let v1067 : BitVec 32 := Scalar.remsi v1066 c8_i32_1504
  let c512_i32_1505 : BitVec 32 := 512#32
  let v1068 : BitVec 32 := Scalar.muli v1067 c512_i32_1505
  let v1069 : BitVec 32 := Scalar.addi v1068 c0_i32_1506
  let v1070 : BitVec 32 := Scalar.addi v1069 c0_i32_1507
  let c0_i32_1512 : BitVec 32 := 0#32
  ![v1070.toNat, 0]
def k0_off3_at (r : Fin 4) : BitVec 32 × BitVec 32 × BitVec 32 :=
  if r.val < 2 then
    if r.val < 1 then
      (1#32, 0#32, 0#32)
    else
      (4294967295#32, 256#32, 0#32)
  else
    if r.val < 3 then
      (1#32, 0#32, 128#32)
    else
      (4294967295#32, 256#32, 128#32)
def k0_dev58 (d0 : Dev nD) : Nat :=
  let c0_i32_1556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1555 : BitVec 32 := 1#32
  let v1112 : BitVec 32 := Scalar.muli v7 c1_i32_1555
  let v1113 : BitVec 32 := Scalar.addi c0_i32_1556 v1112
  v1113.toNat
def k0_dev59 (d0 : Dev nD) : Nat :=
  let c0_i32_1581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1580 : BitVec 32 := 1#32
  let v1125 : BitVec 32 := Scalar.muli v7 c1_i32_1580
  let v1126 : BitVec 32 := Scalar.addi c0_i32_1581 v1125
  v1126.toNat
def k0_dev60 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1596 : BitVec 32 := 1#32
  let v1135 : BitVec 32 := Scalar.muli v5 c1_i32_1596
  let v1136 : BitVec 32 := Scalar.addi c0_i32_1597 v1135
  v1136.toNat
def k0_dev61 (d0 : Dev nD) : Nat :=
  let c0_i32_1643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1642 : BitVec 32 := 1#32
  let v1181 : BitVec 32 := Scalar.muli v5 c1_i32_1642
  let v1182 : BitVec 32 := Scalar.addi c0_i32_1643 v1181
  v1182.toNat
def k0_dev62 (d0 : Dev nD) : Nat :=
  let c0_i32_1697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1696 : BitVec 32 := 1#32
  let v1230 : BitVec 32 := Scalar.muli v7 c1_i32_1696
  let v1231 : BitVec 32 := Scalar.addi c0_i32_1697 v1230
  v1231.toNat
def k0_dev63 (d0 : Dev nD) : Nat :=
  let c0_i32_1722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1721 : BitVec 32 := 1#32
  let v1243 : BitVec 32 := Scalar.muli v7 c1_i32_1721
  let v1244 : BitVec 32 := Scalar.addi c0_i32_1722 v1243
  v1244.toNat
def k0_dev64 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1737 : BitVec 32 := 1#32
  let v1253 : BitVec 32 := Scalar.muli v5 c1_i32_1737
  let v1254 : BitVec 32 := Scalar.addi c0_i32_1738 v1253
  v1254.toNat
def k0_dev65 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1779 : BitVec 32 := 1#32
  let v1282 : BitVec 32 := Scalar.muli v5 c1_i32_1779
  let v1283 : BitVec 32 := Scalar.addi c0_i32_1780 v1282
  v1283.toNat
def k0_off4 (d0 : Dev nD) (c0_i32_1781 : BitVec 32) (c0_i32_1785 : BitVec 32) (c0_i32_1786 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1284 : BitVec 32 := Scalar.subi v2 c0_i32_1781
  let c16_i32_1782 : BitVec 32 := 16#32
  let v1285 : BitVec 32 := Scalar.addi v1284 c16_i32_1782
  let c8_i32_1783 : BitVec 32 := 8#32
  let v1286 : BitVec 32 := Scalar.remsi v1285 c8_i32_1783
  let c512_i32_1784 : BitVec 32 := 512#32
  let v1287 : BitVec 32 := Scalar.muli v1286 c512_i32_1784
  let v1288 : BitVec 32 := Scalar.addi v1287 c0_i32_1785
  let v1289 : BitVec 32 := Scalar.addi v1288 c0_i32_1786
  let c0_i32_1791 : BitVec 32 := 0#32
  ![v1289.toNat, 0]
def k0_off4_at (r : Fin 28) : BitVec 32 × BitVec 32 × BitVec 32 :=
  if r.val < 14 then
    if r.val < 7 then
      if r.val < 3 then
        if r.val < 1 then
          (0#32, 0#32, 0#32)
        else
          if r.val < 2 then
            (0#32, 256#32, 0#32)
          else
            (0#32, 0#32, 128#32)
      else
        if r.val < 5 then
          if r.val < 4 then
            (0#32, 256#32, 128#32)
          else
            (1#32, 0#32, 0#32)
        else
          if r.val < 6 then
            (4294967295#32, 256#32, 0#32)
          else
            (1#32, 0#32, 128#32)
    else
      if r.val < 10 then
        if r.val < 8 then
          (4294967295#32, 256#32, 128#32)
        else
          if r.val < 9 then
            (2#32, 0#32, 0#32)
          else
            (4294967294#32, 256#32, 0#32)
      else
        if r.val < 12 then
          if r.val < 11 then
            (2#32, 0#32, 128#32)
          else
            (4294967294#32, 256#32, 128#32)
        else
          if r.val < 13 then
            (3#32, 0#32, 0#32)
          else
            (4294967293#32, 256#32, 0#32)
  else
    if r.val < 21 then
      if r.val < 17 then
        if r.val < 15 then
          (3#32, 0#32, 128#32)
        else
          if r.val < 16 then
            (4294967293#32, 256#32, 128#32)
          else
            (4#32, 0#32, 0#32)
      else
        if r.val < 19 then
          if r.val < 18 then
            (4294967292#32, 256#32, 0#32)
          else
            (4#32, 0#32, 128#32)
        else
          if r.val < 20 then
            (4294967292#32, 256#32, 128#32)
          else
            (5#32, 0#32, 0#32)
    else
      if r.val < 24 then
        if r.val < 22 then
          (4294967291#32, 256#32, 0#32)
        else
          if r.val < 23 then
            (5#32, 0#32, 128#32)
          else
            (4294967291#32, 256#32, 128#32)
      else
        if r.val < 26 then
          if r.val < 25 then
            (6#32, 0#32, 0#32)
          else
            (4294967290#32, 256#32, 0#32)
        else
          if r.val < 27 then
            (6#32, 0#32, 128#32)
          else
            (4294967290#32, 256#32, 128#32)
def k0_dev66 (d0 : Dev nD) : Nat :=
  let c0_i32_1831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1830 : BitVec 32 := 1#32
  let v1314 : BitVec 32 := Scalar.muli v7 c1_i32_1830
  let v1315 : BitVec 32 := Scalar.addi c0_i32_1831 v1314
  v1315.toNat
def k0_dev67 (d0 : Dev nD) : Nat :=
  let c0_i32_1856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1855 : BitVec 32 := 1#32
  let v1327 : BitVec 32 := Scalar.muli v7 c1_i32_1855
  let v1328 : BitVec 32 := Scalar.addi c0_i32_1856 v1327
  v1328.toNat
def k0_dev68 (d0 : Dev nD) : Nat :=
  let c0_i32_1872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1871 : BitVec 32 := 1#32
  let v1337 : BitVec 32 := Scalar.muli v5 c1_i32_1871
  let v1338 : BitVec 32 := Scalar.addi c0_i32_1872 v1337
  v1338.toNat
def k0_dev69 (d0 : Dev nD) : Nat :=
  let c0_i32_1914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1913 : BitVec 32 := 1#32
  let v1366 : BitVec 32 := Scalar.muli v5 c1_i32_1913
  let v1367 : BitVec 32 := Scalar.addi c0_i32_1914 v1366
  v1367.toNat
def k0_dev70 (d0 : Dev nD) : Nat :=
  let c0_i32_1965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1964 : BitVec 32 := 1#32
  let v1398 : BitVec 32 := Scalar.muli v7 c1_i32_1964
  let v1399 : BitVec 32 := Scalar.addi c0_i32_1965 v1398
  v1399.toNat
def k0_dev71 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1989 : BitVec 32 := 1#32
  let v1411 : BitVec 32 := Scalar.muli v7 c1_i32_1989
  let v1412 : BitVec 32 := Scalar.addi c0_i32_1990 v1411
  v1412.toNat
def k0_dev72 (d0 : Dev nD) : Nat :=
  let c0_i32_2006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2005 : BitVec 32 := 1#32
  let v1421 : BitVec 32 := Scalar.muli v5 c1_i32_2005
  let v1422 : BitVec 32 := Scalar.addi c0_i32_2006 v1421
  v1422.toNat
def k0_dev73 (d0 : Dev nD) : Nat :=
  let c0_i32_2055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2054 : BitVec 32 := 1#32
  let v1455 : BitVec 32 := Scalar.muli v5 c1_i32_2054
  let v1456 : BitVec 32 := Scalar.addi c0_i32_2055 v1455
  v1456.toNat
def k0_dev74 (d0 : Dev nD) : Nat :=
  let c0_i32_2113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2112 : BitVec 32 := 1#32
  let v1492 : BitVec 32 := Scalar.muli v7 c1_i32_2112
  let v1493 : BitVec 32 := Scalar.addi c0_i32_2113 v1492
  v1493.toNat
def k0_dev75 (d0 : Dev nD) : Nat :=
  let c0_i32_2138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2137 : BitVec 32 := 1#32
  let v1505 : BitVec 32 := Scalar.muli v7 c1_i32_2137
  let v1506 : BitVec 32 := Scalar.addi c0_i32_2138 v1505
  v1506.toNat
def k0_dev76 (d0 : Dev nD) : Nat :=
  let c0_i32_2154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2153 : BitVec 32 := 1#32
  let v1515 : BitVec 32 := Scalar.muli v5 c1_i32_2153
  let v1516 : BitVec 32 := Scalar.addi c0_i32_2154 v1515
  v1516.toNat
def k0_dev77 (d0 : Dev nD) : Nat :=
  let c0_i32_2203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2202 : BitVec 32 := 1#32
  let v1549 : BitVec 32 := Scalar.muli v5 c1_i32_2202
  let v1550 : BitVec 32 := Scalar.addi c0_i32_2203 v1549
  v1550.toNat
def k0_dev78 (d0 : Dev nD) : Nat :=
  let c0_i32_2261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2260 : BitVec 32 := 1#32
  let v1586 : BitVec 32 := Scalar.muli v7 c1_i32_2260
  let v1587 : BitVec 32 := Scalar.addi c0_i32_2261 v1586
  v1587.toNat
def k0_dev79 (d0 : Dev nD) : Nat :=
  let c0_i32_2286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2285 : BitVec 32 := 1#32
  let v1599 : BitVec 32 := Scalar.muli v7 c1_i32_2285
  let v1600 : BitVec 32 := Scalar.addi c0_i32_2286 v1599
  v1600.toNat
def k0_dev80 (d0 : Dev nD) : Nat :=
  let c0_i32_2302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2301 : BitVec 32 := 1#32
  let v1609 : BitVec 32 := Scalar.muli v5 c1_i32_2301
  let v1610 : BitVec 32 := Scalar.addi c0_i32_2302 v1609
  v1610.toNat
def k0_dev81 (d0 : Dev nD) : Nat :=
  let c0_i32_2351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2350 : BitVec 32 := 1#32
  let v1643 : BitVec 32 := Scalar.muli v5 c1_i32_2350
  let v1644 : BitVec 32 := Scalar.addi c0_i32_2351 v1643
  v1644.toNat
def k0_dev82 (d0 : Dev nD) : Nat :=
  let c0_i32_2409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2408 : BitVec 32 := 1#32
  let v1680 : BitVec 32 := Scalar.muli v7 c1_i32_2408
  let v1681 : BitVec 32 := Scalar.addi c0_i32_2409 v1680
  v1681.toNat
def k0_dev83 (d0 : Dev nD) : Nat :=
  let c0_i32_2434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2433 : BitVec 32 := 1#32
  let v1693 : BitVec 32 := Scalar.muli v7 c1_i32_2433
  let v1694 : BitVec 32 := Scalar.addi c0_i32_2434 v1693
  v1694.toNat
def k0_dev84 (d0 : Dev nD) : Nat :=
  let c0_i32_2450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2449 : BitVec 32 := 1#32
  let v1703 : BitVec 32 := Scalar.muli v5 c1_i32_2449
  let v1704 : BitVec 32 := Scalar.addi c0_i32_2450 v1703
  v1704.toNat
def k0_dev85 (d0 : Dev nD) : Nat :=
  let c0_i32_2499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2498 : BitVec 32 := 1#32
  let v1737 : BitVec 32 := Scalar.muli v5 c1_i32_2498
  let v1738 : BitVec 32 := Scalar.addi c0_i32_2499 v1737
  v1738.toNat
def k0_dev86 (d0 : Dev nD) : Nat :=
  let c0_i32_2557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2556 : BitVec 32 := 1#32
  let v1774 : BitVec 32 := Scalar.muli v7 c1_i32_2556
  let v1775 : BitVec 32 := Scalar.addi c0_i32_2557 v1774
  v1775.toNat
def k0_dev87 (d0 : Dev nD) : Nat :=
  let c0_i32_2582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2581 : BitVec 32 := 1#32
  let v1787 : BitVec 32 := Scalar.muli v7 c1_i32_2581
  let v1788 : BitVec 32 := Scalar.addi c0_i32_2582 v1787
  v1788.toNat
def k0_dev88 (d0 : Dev nD) : Nat :=
  let c0_i32_2598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2597 : BitVec 32 := 1#32
  let v1797 : BitVec 32 := Scalar.muli v5 c1_i32_2597
  let v1798 : BitVec 32 := Scalar.addi c0_i32_2598 v1797
  v1798.toNat
def k0_dev89 (d0 : Dev nD) : Nat :=
  let c0_i32_2647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2646 : BitVec 32 := 1#32
  let v1831 : BitVec 32 := Scalar.muli v5 c1_i32_2646
  let v1832 : BitVec 32 := Scalar.addi c0_i32_2647 v1831
  v1832.toNat
def k0_dev90 (d0 : Dev nD) : Nat :=
  let c0_i32_2705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2704 : BitVec 32 := 1#32
  let v1868 : BitVec 32 := Scalar.muli v7 c1_i32_2704
  let v1869 : BitVec 32 := Scalar.addi c0_i32_2705 v1868
  v1869.toNat
def k0_dev91 (d0 : Dev nD) : Nat :=
  let c0_i32_2730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2729 : BitVec 32 := 1#32
  let v1881 : BitVec 32 := Scalar.muli v7 c1_i32_2729
  let v1882 : BitVec 32 := Scalar.addi c0_i32_2730 v1881
  v1882.toNat
def k0_dev92 (d0 : Dev nD) : Nat :=
  let c0_i32_2746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2745 : BitVec 32 := 1#32
  let v1891 : BitVec 32 := Scalar.muli v5 c1_i32_2745
  let v1892 : BitVec 32 := Scalar.addi c0_i32_2746 v1891
  v1892.toNat
def k0_dev93 (d0 : Dev nD) : Nat :=
  let c0_i32_2795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2794 : BitVec 32 := 1#32
  let v1925 : BitVec 32 := Scalar.muli v5 c1_i32_2794
  let v1926 : BitVec 32 := Scalar.addi c0_i32_2795 v1925
  v1926.toNat
def k0_dev94 (d0 : Dev nD) : Nat :=
  let c0_i32_2853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2852 : BitVec 32 := 1#32
  let v1962 : BitVec 32 := Scalar.muli v7 c1_i32_2852
  let v1963 : BitVec 32 := Scalar.addi c0_i32_2853 v1962
  v1963.toNat
def k0_dev95 (d0 : Dev nD) : Nat :=
  let c0_i32_2878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2877 : BitVec 32 := 1#32
  let v1975 : BitVec 32 := Scalar.muli v7 c1_i32_2877
  let v1976 : BitVec 32 := Scalar.addi c0_i32_2878 v1975
  v1976.toNat
def k0_dev96 (d0 : Dev nD) : Nat :=
  let c0_i32_2894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2893 : BitVec 32 := 1#32
  let v1985 : BitVec 32 := Scalar.muli v5 c1_i32_2893
  let v1986 : BitVec 32 := Scalar.addi c0_i32_2894 v1985
  v1986.toNat
def k0_dev97 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2942 : BitVec 32 := 1#32
  let v2019 : BitVec 32 := Scalar.muli v5 c1_i32_2942
  let v2020 : BitVec 32 := Scalar.addi c0_i32_2943 v2019
  v2020.toNat
def k0_dev98 (d0 : Dev nD) : Nat :=
  let c0_i32_3001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3000 : BitVec 32 := 1#32
  let v2056 : BitVec 32 := Scalar.muli v7 c1_i32_3000
  let v2057 : BitVec 32 := Scalar.addi c0_i32_3001 v2056
  v2057.toNat
def k0_dev99 (d0 : Dev nD) : Nat :=
  let c0_i32_3026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3025 : BitVec 32 := 1#32
  let v2069 : BitVec 32 := Scalar.muli v7 c1_i32_3025
  let v2070 : BitVec 32 := Scalar.addi c0_i32_3026 v2069
  v2070.toNat
def k0_dev100 (d0 : Dev nD) : Nat :=
  let c0_i32_3042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3041 : BitVec 32 := 1#32
  let v2079 : BitVec 32 := Scalar.muli v5 c1_i32_3041
  let v2080 : BitVec 32 := Scalar.addi c0_i32_3042 v2079
  v2080.toNat
def k0_dev101 (d0 : Dev nD) : Nat :=
  let c0_i32_3091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3090 : BitVec 32 := 1#32
  let v2113 : BitVec 32 := Scalar.muli v5 c1_i32_3090
  let v2114 : BitVec 32 := Scalar.addi c0_i32_3091 v2113
  v2114.toNat
def k0_dev102 (d0 : Dev nD) : Nat :=
  let c0_i32_3149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3148 : BitVec 32 := 1#32
  let v2150 : BitVec 32 := Scalar.muli v7 c1_i32_3148
  let v2151 : BitVec 32 := Scalar.addi c0_i32_3149 v2150
  v2151.toNat
def k0_dev103 (d0 : Dev nD) : Nat :=
  let c0_i32_3174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3173 : BitVec 32 := 1#32
  let v2163 : BitVec 32 := Scalar.muli v7 c1_i32_3173
  let v2164 : BitVec 32 := Scalar.addi c0_i32_3174 v2163
  v2164.toNat
def k0_dev104 (d0 : Dev nD) : Nat :=
  let c0_i32_3190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3189 : BitVec 32 := 1#32
  let v2173 : BitVec 32 := Scalar.muli v5 c1_i32_3189
  let v2174 : BitVec 32 := Scalar.addi c0_i32_3190 v2173
  v2174.toNat
def k0_dev105 (d0 : Dev nD) : Nat :=
  let c0_i32_3239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3238 : BitVec 32 := 1#32
  let v2207 : BitVec 32 := Scalar.muli v5 c1_i32_3238
  let v2208 : BitVec 32 := Scalar.addi c0_i32_3239 v2207
  v2208.toNat
def k0_dev106 (d0 : Dev nD) : Nat :=
  let c0_i32_3297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3296 : BitVec 32 := 1#32
  let v2244 : BitVec 32 := Scalar.muli v7 c1_i32_3296
  let v2245 : BitVec 32 := Scalar.addi c0_i32_3297 v2244
  v2245.toNat
def k0_dev107 (d0 : Dev nD) : Nat :=
  let c0_i32_3322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3321 : BitVec 32 := 1#32
  let v2257 : BitVec 32 := Scalar.muli v7 c1_i32_3321
  let v2258 : BitVec 32 := Scalar.addi c0_i32_3322 v2257
  v2258.toNat
def k0_dev108 (d0 : Dev nD) : Nat :=
  let c0_i32_3338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3337 : BitVec 32 := 1#32
  let v2267 : BitVec 32 := Scalar.muli v5 c1_i32_3337
  let v2268 : BitVec 32 := Scalar.addi c0_i32_3338 v2267
  v2268.toNat
def k0_dev109 (d0 : Dev nD) : Nat :=
  let c0_i32_3387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3386 : BitVec 32 := 1#32
  let v2301 : BitVec 32 := Scalar.muli v5 c1_i32_3386
  let v2302 : BitVec 32 := Scalar.addi c0_i32_3387 v2301
  v2302.toNat
def k0_dev110 (d0 : Dev nD) : Nat :=
  let c0_i32_3445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3444 : BitVec 32 := 1#32
  let v2338 : BitVec 32 := Scalar.muli v7 c1_i32_3444
  let v2339 : BitVec 32 := Scalar.addi c0_i32_3445 v2338
  v2339.toNat
def k0_dev111 (d0 : Dev nD) : Nat :=
  let c0_i32_3470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3469 : BitVec 32 := 1#32
  let v2351 : BitVec 32 := Scalar.muli v7 c1_i32_3469
  let v2352 : BitVec 32 := Scalar.addi c0_i32_3470 v2351
  v2352.toNat
def k0_dev112 (d0 : Dev nD) : Nat :=
  let c0_i32_3486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3485 : BitVec 32 := 1#32
  let v2361 : BitVec 32 := Scalar.muli v5 c1_i32_3485
  let v2362 : BitVec 32 := Scalar.addi c0_i32_3486 v2361
  v2362.toNat
def k0_dev113 (d0 : Dev nD) : Nat :=
  let c0_i32_3535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3534 : BitVec 32 := 1#32
  let v2395 : BitVec 32 := Scalar.muli v5 c1_i32_3534
  let v2396 : BitVec 32 := Scalar.addi c0_i32_3535 v2395
  v2396.toNat
def k0_dev114 (d0 : Dev nD) : Nat :=
  let c0_i32_3593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3592 : BitVec 32 := 1#32
  let v2432 : BitVec 32 := Scalar.muli v7 c1_i32_3592
  let v2433 : BitVec 32 := Scalar.addi c0_i32_3593 v2432
  v2433.toNat
def k0_dev115 (d0 : Dev nD) : Nat :=
  let c0_i32_3651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3650 : BitVec 32 := 1#32
  let v2469 : BitVec 32 := Scalar.muli v5 c1_i32_3650
  let v2470 : BitVec 32 := Scalar.addi c0_i32_3651 v2469
  v2470.toNat
def k0_dev116 (d0 : Dev nD) : Nat :=
  let c0_i32_3709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3708 : BitVec 32 := 1#32
  let v2506 : BitVec 32 := Scalar.muli v7 c1_i32_3708
  let v2507 : BitVec 32 := Scalar.addi c0_i32_3709 v2506
  v2507.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Common.lean ====
/-
  The names the proof speaks of: the two rings and their neighbours, the semaphores and slots of a ring,
  and the contents every transfer carries.
-/
module

public import proofs.«01_k».proof.Proof.Gen.KernelIdeal.Skeleton
public import Idealize.ShloMosaic.Lib.Release
public import Idealize.ShloMosaic.Lib.Rounds
public import Idealize.ShloMosaic.Lib.Memref
public import Idealize.ShloMosaic.Lib.MemrefSat
public import Idealize.ShloMosaic.Lib.Pipeline.Launch

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The rings

`false` is the ring whose items travel to the right, `true` the one whose items travel to the left. -/

/-- The device `z` places to the right. -/
def mv (z : ℕ) (c : Dev nD) : Dev nD := ⟨(c.val + z) % 8, Nat.mod_lt _ (by decide)⟩
/-- The device a ring's items are sent to. -/
def dst (d : Bool) (c : Dev nD) : Dev nD := mv (if d then 7 else 1) c
/-- The device a ring's items come from. -/
def snd (d : Bool) (c : Dev nD) : Dev nD := mv (if d then 1 else 7) c

theorem dst_snd (d : Bool) (c : Dev nD) : dst d (snd d c) = c := by revert d c; decide
theorem snd_dst (d : Bool) (c : Dev nD) : snd d (dst d c) = c := by revert d c; decide
theorem snd_not (d : Bool) (c : Dev nD) : snd (!d) c = dst d c := by revert d c; decide
theorem dst_not (d : Bool) (c : Dev nD) : dst (!d) c = snd d c := by revert d c; decide

/-- Sending along a ring, as a permutation of the devices. -/
def ringEquiv (d : Bool) : Dev nD ≃ Dev nD := ⟨dst d, snd d, snd_dst d, dst_snd d⟩

/-- The chunk device `c` works on at step `t` of a ring. -/
def ch (d : Bool) (t : ℕ) (c : Dev nD) : ℕ := (c.val + (if d then t else 7 * t)) % 8

theorem ch_lt (d : Bool) (t : ℕ) (c : Dev nD) : ch d t c < 8 := Nat.mod_lt _ (by decide)

theorem ch_succ (d : Bool) (t : ℕ) (c : Dev nD) : ch d (t + 1) c = ch d t (snd d c) := by
  have : nD = 8 := rfl
  cases d <;> simp only [ch, snd, mv, Bool.false_eq_true, if_false, if_true] <;> omega

/-- The slot of item `n`: item `n` is segment `n % 2` of step `n / 2`, and steps alternate between two slots. -/
abbrev key (n : ℕ) : Fin 4 := ⟨n % 4, Nat.mod_lt _ (by decide)⟩

/-! ## Semaphores -/

/-- A ring's semaphore of landings in slot `k`. -/
def rsem (d : Bool) (k : Fin 4) : DmaSem sig := ⟨(if d then 18 else 6) + k.val, by revert d k; decide⟩
/-- A ring's semaphore of departures from slot `k`. -/
def ssem (d : Bool) (k : Fin 4) : DmaSem sig := ⟨(if d then 14 else 2) + k.val, by revert d k; decide⟩
/-- A ring's semaphore of copies from slot `k` to the result. -/
def osem (d : Bool) (k : Fin 4) : DmaSem sig := ⟨(if d then 22 else 10) + k.val, by revert d k; decide⟩
/-- A ring's semaphore of credits. -/
def csem (d : Bool) : Sem sig := ⟨if d then 1 else 0, by revert d; decide⟩
/-- The barrier. -/
def bsem : Sem sig := ⟨2, by decide⟩

abbrev rcell (c : Dev nD) (d : Bool) (k : Fin 4) : GSem nD τ sig := ((c : Thread nD τ), .dma (rsem d k))
abbrev scell (c : Dev nD) (d : Bool) (k : Fin 4) : GSem nD τ sig := ((c : Thread nD τ), .dma (ssem d k))
abbrev ocell (c : Dev nD) (d : Bool) (k : Fin 4) : GSem nD τ sig := ((c : Thread nD τ), .dma (osem d k))
abbrev ccell (c : Dev nD) (d : Bool) : GSem nD τ sig := ((c : Thread nD τ), .reg (csem d))
abbrev bcell (c : Dev nD) : GSem nD τ sig := ((c : Thread nD τ), .reg bsem)

/-! ## Slots and rows -/

theorem slot_inb (k : Fin 4) : ∀ a, (![k.val / 2, k.val % 2, 0, 0] : Fin 4 → ℕ) a + S1x1x128x8192.size a ≤ S2x2x128x8192.size a := by
  revert k; decide

/-- Slot `k` of a buffer of four. -/
abbrev slotRect (k : Fin 4) : Rect S2x2x128x8192 :=
  Rect.unit (s := S2x2x128x8192) ![k.val / 2, k.val % 2, 0, 0] S1x1x128x8192.size (slot_inb k)

/-- Slot `k` of a buffer of four, as rows and columns. -/
abbrev slotM (m : Memref sig .tc .vmem S2x2x128x8192 .bf16) (k : Fin 4) : Memref sig .tc .vmem S128x8192 .bf16 :=
  (m.slice (slotRect k) (fun _ => rfl)).squeeze S128x8192 squeezes_S1x1x128x8192_S128x8192

/-- The buffer a ring's items land in. -/
def rbuf : Bool → Memref sig .tc .vmem S2x2x128x8192 .bf16
  | false => Memref.whole cc0_scratch0
  | true => Memref.whole cc0_scratch6
/-- The buffer a ring's items are sent from. -/
def sbuf : Bool → Memref sig .tc .vmem S2x2x128x8192 .bf16
  | false => Memref.whole cc0_scratch1
  | true => Memref.whole cc0_scratch7

/-- First row of segment `g` of a ring in chunk `q` of the result. -/
def orow (d : Bool) (q g : ℕ) : ℕ := 512 * q + (if d then 256 else 0) + 128 * (g % 2)

theorem orow_inb (d : Bool) (t g : ℕ) (c : Dev nD) :
    ∀ a, (![orow d (ch d t c) g, 0] : Fin 2 → ℕ) a + S128x8192.size a ≤ S4096x8192.size a := by
  have h := ch_lt d t c
  have h1 : orow d (ch d t c) g + 128 ≤ 4096 := by unfold orow; cases d <;> simp <;> omega
  intro a
  fin_cases a
  · exact h1
  · exact le_refl 8192

/-- The rows of the result item `n` is copied to. -/
abbrev outM (c : Dev nD) (d : Bool) (n : ℕ) : Memref sig .tc .hbm S128x8192 .bf16 :=
  (Memref.whole main_v2).slice
    (Rect.unit (s := S4096x8192) ![orow d (ch d (n / 2) c) n, 0] S128x8192.size (orow_inb d (n / 2) n c)) (fun _ => rfl)

/-- First row of the block of `x` device `c` multiplies at step `t` of a ring. -/
def xrow (d : Bool) (q : ℕ) : ℕ := 512 * q + (if d then 256 else 0)

theorem xrow_inb (d : Bool) (t : ℕ) (c : Dev nD) :
    ∀ a, (![xrow d (ch d t c), 0] : Fin 2 → ℕ) a + S256x512.size a ≤ S4096x512.size a := by
  have h := ch_lt d t c
  have h1 : xrow d (ch d t c) + 256 ≤ 4096 := by unfold xrow; cases d <;> simp <;> omega
  intro a
  fin_cases a
  · exact h1
  · exact le_refl 512

abbrev xRect (d : Bool) (t : ℕ) (c : Dev nD) : Rect S4096x512 :=
  Rect.unit (s := S4096x512) ![xrow d (ch d t c), 0] S256x512.size (xrow_inb d t c)

/-! ## What is sent -/

/-- The product of 256 rows of a device's block of `x` with its block of `w`. -/
def prodOf (x : Vec F S256x512 .bf16) (w : Vec F S512x8192 .bf16) : FVec F S256x8192 .bf16 :=
  truncf .bf16 (matmul dot_S256x512_S512x8192_S256x8192_1_0_0_1_n_n none (shapeCast S256x512 x shapeCasts_S256x512_S256x512)
    (shapeCast S512x8192 w shapeCasts_S512x8192_S512x8192) (constant S256x8192 .f32 0x00000000#32)) bitsLt_bf16_f32

/-- Segment `g % 2` of a product. -/
def segOf (g : ℕ) (p : FVec F S256x8192 .bf16) : FVec F S128x8192 .bf16 :=
  if g % 2 = 0 then extractStridedSlice S128x8192 ![0, 0] p slices_S256x8192_o0_0_S128x8192
  else extractStridedSlice S128x8192 ![128, 0] p slices_S256x8192_o128_0_S128x8192

/-- The epilogue: computed at single precision, rounded. -/
def geluOf (v : FVec F S128x8192 .bf16) : FVec F S128x8192 .bf16 :=
  have y : FVec F S128x8192 .f32 := extf .f32 v bitsLt_bf16_f32
  truncf .bf16 (mulf (mulf (broadcast S128x8192 (Scalar.ofBits (F := F) .f32 0x3F000000#32)) y)
    (addf (broadcast S128x8192 (Scalar.ofBits (F := F) .f32 0x3F800000#32))
      (tanh (mulf (broadcast S128x8192 (Scalar.ofBits (F := F) .f32 0x3F4C422A#32))
        (addf y (mulf (mulf (mulf (broadcast S128x8192 (Scalar.ofBits (F := F) .f32 0x3D372713#32)) y) y) y)))))) bitsLt_bf16_f32

section Items

variable (X : Dev nD → Vec F S4096x512 .bf16) (Wt : Dev nD → Vec F S512x8192 .bf16)

/-- The rows of `x` device `c` multiplies at step `t` of a ring. -/
def xt (c : Dev nD) (d : Bool) (t : ℕ) : Vec F S256x512 .bf16 := fun i => X c ((xRect d t c).emb i)

/-- Device `c`'s partial product at step `t` of a ring. -/
def part (c : Dev nD) (d : Bool) (t : ℕ) : FVec F S256x8192 .bf16 := prodOf (xt X c d t) (Wt c)

/-- What the slot a ring sends from holds at step `t`, segment `g`: a partial sum, at step 7 the epilogue of the whole sum,
    and from then on what came from the neighbour. -/
def itv (d : Bool) (g : ℕ) : ℕ → Dev nD → FVec F S128x8192 .bf16
  | 0, c => segOf g (part X Wt c d 0)
  | t + 1, c => if t < 6 then addf (segOf g (part X Wt c d (t + 1))) (itv d g t (snd d c))
      else if t = 6 then geluOf (addf (segOf g (part X Wt c d (t + 1))) (itv d g t (snd d c)))
      else itv d g t (snd d c)

/-- Item `n` device `c` puts into its slot. -/
def item (c : Dev nD) (d : Bool) (n : ℕ) : FVec F S128x8192 .bf16 := itv X Wt d (n % 2) (n / 2) c

end Items

/-- The row layout a slot is loaded and stored at. -/
abbrev wrap (v : FVec F S128x8192 .bf16) : FVec F S1x1x128x8192 .bf16 := shapeCast S1x1x128x8192 v shapeCasts_S128x8192_S1x1x128x8192
abbrev unwrap (v : FVec F S1x1x128x8192 .bf16) : FVec F S128x8192 .bf16 := shapeCast S128x8192 v shapeCasts_S1x1x128x8192_S128x8192

theorem unwrap_wrap (v : FVec F S128x8192 .bf16) : unwrap (wrap v) = v := by
  funext i
  show v _ = v i
  congr 1
  simp [Shape.reshapeEquiv]

theorem wrap_unwrap (v : FVec F S1x1x128x8192 .bf16) : wrap (unwrap v) = v := by
  funext i
  show v _ = v i
  congr 1
  simp [Shape.reshapeEquiv]

/-! ## Loads and stores of a slot -/

variable {Ix : Type} [DecidableEq Ix] {U : Type} [URA U] {Lvl : Type}

local notation "𝕄" => MT nD τ sig Ix (Elt F) ℕ U Lvl

theorem slot_set (m : Memref sig .tc .vmem S2x2x128x8192 .bf16) (k : Fin 4) : (m.access (slotRect k)).set = (slotM m k).view.set :=
  (View.set_reshape (v := m.view.slice (slotRect k)) _).symm

/-- A load of a slot reads what the slot holds. -/
theorem slot_read (m : Memref sig .tc .vmem S2x2x128x8192 .bf16) (k : Fin 4) (f : m.view.ty.Contents (Elt F)) :
    (m.access (slotRect k)).read (Elt F) f = wrap ((slotM m k).view.read (Elt F) f) :=
  (wrap_unwrap (F := F) ((m.access (slotRect k)).read (Elt F) f)).symm

/-- A store to a slot leaves what is stored. -/
theorem slot_written (m : Memref sig .tc .vmem S2x2x128x8192 .bf16) (k : Fin 4) (f : m.view.ty.Contents (Elt F)) (w : FVec F S1x1x128x8192 .bf16) :
    (slotM m k).view.read (Elt F) ((m.access (slotRect k)).write (Elt F) f w Finset.univ) = unwrap w := by
  show unwrap ((m.access (slotRect k)).read (Elt F) ((m.access (slotRect k)).write (Elt F) f w Finset.univ)) = unwrap w
  rw [View.read_write_univ]

/-- A slot is not empty. -/
theorem slot_nonempty (m : Memref sig .tc .vmem S2x2x128x8192 .bf16) (k : Fin 4) : (slotM m k).view.set.Nonempty :=
  ⟨(slotM m k).view.emb (fun a => ⟨0, by revert a; decide⟩), Finset.mem_map.mpr ⟨_, Finset.mem_univ _, rfl⟩⟩

end Cert.Proof

end
-- ==== Proof.Protocol.lean ====
/-
  The protocol: for every semaphore of every device, who raises it, in which round, and what the wait receives;
  and the order in which what is owed may be waited for.
-/
module

public import proofs.«01_k».proof.Proof.Common
public import Idealize.ShloMosaic.Lib.Pipeline.Kit
public import Idealize.ShloMosaic.Lib.Tactic

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost algebra -/

/-- A reader's slot: the device, the ring, the slot. -/
abbrev Key : Type := Dev nD × Bool × Fin 4

/-- Staging, the rounds of the semaphores, the releases of the landing slots. -/
abbrev UU : Type := UR sig nD τ × (URounds (GSem nD τ sig) ℕ × Release.USlots Key)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev EV : Emb (Release.USlots Key) (MT nD τ sig ℕ (Elt F) ℕ UU ℕ) := Emb.inr.trans embR

/-! ## What a semaphore is for -/

inductive Role | bar | cred (d : Bool) | rcv (d : Bool) (k : Fin 4) | snt (d : Bool) (k : Fin 4) | cpy (d : Bool) (k : Fin 4) | other
  deriving DecidableEq

/-- A slot number read off a semaphore's number. -/
abbrev fin4 (n : ℕ) : Fin 4 := ⟨n % 4, Nat.mod_lt _ (by decide)⟩

def role : SemLoc sig → Role
  | .reg s => if s.val = 2 then .bar else .cred (s.val == 1)
  | .dma s =>
    if s.val < 2 then .other
    else if s.val < 6 then .snt false (fin4 (s.val - 2))
    else if s.val < 10 then .rcv false (fin4 (s.val - 6))
    else if s.val < 14 then .cpy false (fin4 (s.val - 10))
    else if s.val < 18 then .snt true (fin4 (s.val - 14))
    else if s.val < 22 then .rcv true (fin4 (s.val - 18))
    else .cpy true (fin4 (s.val - 22))

theorem role_bar : role (.reg bsem) = .bar := by decide
theorem role_cred (d : Bool) : role (.reg (csem d)) = .cred d := by revert d; decide
theorem role_rcv (d : Bool) (k : Fin 4) : role (.dma (rsem d k)) = .rcv d k := by revert d k; decide
theorem role_snt (d : Bool) (k : Fin 4) : role (.dma (ssem d k)) = .snt d k := by revert d k; decide
theorem role_cpy (d : Bool) (k : Fin 4) : role (.dma (osem d k)) = .cpy d k := by revert d k; decide

/-! ## Payloads -/

/-- The item whose copy to the result is the `r`-th from slot `k`. -/
def oit (k : Fin 4) (r : ℕ) : ℕ := if k.val < 2 then 16 + k.val + 4 * r else 12 + k.val + 4 * r

/-- One transfer's worth of a semaphore. -/
def N : ℕ := 65536

theorem N_pos : 0 < N := Nat.succ_pos _

theorem N_tile : RefSig.tileCredit S128x8192 .bf16 = N := by rfl

theorem N_rbuf (d : Bool) (k : Fin 4) : (slotM (rbuf d) k).view.dmaCredit = N := N_tile
theorem N_sbuf (d : Bool) (k : Fin 4) : (slotM (sbuf d) k).view.dmaCredit = N := N_tile
theorem N_out (c : Dev nD) (d : Bool) (n : ℕ) : (outM c d n).view.dmaCredit = N := N_tile

section Pay

variable (X : Dev nD → Vec F S4096x512 .bf16) (Wt : Dev nD → Vec F S512x8192 .bf16)

/-- Reader `x` has taken item `i` and its slot may be filled again. -/
def fact (x : Dev nD) (d : Bool) (i : ℕ) : sProp 𝕄 :=
  if i < 24 then iprop(Release.released EV ((x, d, key i) : Key) (i / 4 + 2) ∗ reached ER (rcell x d (key i)) (i / 4 + 1)) else iprop(emp)

instance fact_persistent (x : Dev nD) (d : Bool) (i : ℕ) : BI.Persistent (fact (F := F) x d i) := by
  unfold fact; split <;> infer_instance
instance fact_storable (x : Dev nD) (d : Bool) (i : ℕ) : BI.Storable (upEmb : UEmb _ 𝕄) (fact (F := F) x d i) := by
  unfold fact; split <;> infer_instance

/-- What the credit of item `n` tells: every item up to `n` has been taken. -/
def credPay (x : Dev nD) (d : Bool) (n : ℕ) : sProp 𝕄 := bigSep (Finset.range (n + 1)) (fact (F := F) x d)

instance credPay_persistent (x : Dev nD) (d : Bool) (n : ℕ) : BI.Persistent (credPay (F := F) x d n) := by
  unfold credPay; infer_instance
instance credPay_storable (x : Dev nD) (d : Bool) (n : ℕ) : BI.Storable (upEmb : UEmb _ 𝕄) (credPay (F := F) x d n) := by
  unfold credPay; infer_instance

/-- What a credit tells: the first (before any item) nothing, the next what its item tells. -/
def duePay (x : Dev nD) (d : Bool) (u : ℕ) : sProp 𝕄 := if u = 0 then iprop(emp) else credPay (F := F) x d (u - 1)

instance duePay_persistent (x : Dev nD) (d : Bool) (u : ℕ) : BI.Persistent (duePay (F := F) x d u) := by
  unfold duePay; split <;> infer_instance
instance duePay_storable (x : Dev nD) (d : Bool) (u : ℕ) : BI.Storable (upEmb : UEmb _ 𝕄) (duePay (F := F) x d u) := by
  unfold duePay; split <;> infer_instance

/-- What the reader `x` of a ring tells at the barrier: its landing slots are free, its counters of landings are at their start. -/
def slotFacts (x : Dev nD) (d : Bool) : sProp 𝕄 :=
  bigSep Finset.univ fun k : Fin 4 => iprop(reached ER (rcell x d k) 0 ∗ Release.released EV ((x, d, k) : Key) 1)

instance slotFacts_persistent (x : Dev nD) (d : Bool) : BI.Persistent (slotFacts (F := F) x d) := by unfold slotFacts; infer_instance
instance slotFacts_storable (x : Dev nD) (d : Bool) : BI.Storable (upEmb : UEmb _ 𝕄) (slotFacts (F := F) x d) := by
  unfold slotFacts; infer_instance

/-- What `c` learns at the barrier from the device it sends to along a ring, which in the other ring sends to `c`. -/
def barPay (c : Dev nD) (d : Bool) : sProp 𝕄 :=
  iprop(slotFacts (F := F) (dst d c) d ∗ reached ER (ccell (dst d c) (!d)) 0)

instance barPay_persistent (c : Dev nD) (d : Bool) : BI.Persistent (barPay (F := F) c d) := by unfold barPay; infer_instance
instance barPay_storable (c : Dev nD) (d : Bool) : BI.Storable (upEmb : UEmb _ 𝕄) (barPay (F := F) c d) := by
  unfold barPay; infer_instance

/-- A landing: the slot, holding the neighbour's item. -/
def rcvPay (c : Dev nD) (d : Bool) (k : Fin 4) (r : ℕ) : sProp 𝕄 :=
  owns (c : Thread nD τ) (slotM (rbuf d) k) fullShare (item X Wt (snd d c) d (4 * r + k.val))
/-- A departure: half the slot sent from. -/
def sntPay (c : Dev nD) (d : Bool) (k : Fin 4) (r : ℕ) : sProp 𝕄 :=
  owns (c : Thread nD τ) (slotM (sbuf d) k) fullShare.left (item X Wt c d (4 * r + k.val))
/-- A copy to the result: the other half of the slot, and the rows written. -/
def cpyPay (c : Dev nD) (d : Bool) (k : Fin 4) (r : ℕ) : sProp 𝕄 :=
  iprop(owns (c : Thread nD τ) (slotM (sbuf d) k) fullShare.right (item X Wt c d (oit k r))
    ∗ owns (c : Thread nD τ) (outM c d (oit k r)) fullShare (item X Wt c d (oit k r)))

def payOf (c : Dev nD) (r u : ℕ) : Role → sProp 𝕄
  | .bar => barPay (F := F) c (u == 1)
  | .cred d => duePay (F := F) (dst d c) d u
  | .rcv d k => rcvPay X Wt c d k r
  | .snt d k => sntPay X Wt c d k r
  | .cpy d k => cpyPay X Wt c d k r
  | .other => iprop(emp)

instance payOf_storable (c : Dev nD) (r u : ℕ) (o : Role) : BI.Storable (upEmb : UEmb _ 𝕄) (payOf X Wt c r u o) := by
  cases o <;> unfold payOf rcvPay sntPay cpyPay <;> infer_instance

def dutiesOf (r : ℕ) : Role → Finset ℕ
  | .bar => if r = 0 then {0, 1} else ∅
  | .cred _ => if r = 0 then Finset.range 29 else ∅
  | .rcv _ _ => if r < 7 then {0} else ∅
  | .snt _ _ => if r < 7 then {0} else ∅
  | .cpy _ _ => if r < 4 then {0} else ∅
  | .other => ∅

def amountOf (u : ℕ) : Role → ℕ
  | .bar => 1
  | .cred _ => if u = 0 then 4 else 1
  | _ => N

theorem amountOf_pos (u : ℕ) (o : Role) : 0 < amountOf u o := by
  cases o <;> simp only [amountOf]
  · exact Nat.one_pos
  · split <;> decide
  all_goals exact N_pos

/-- The schedule of every semaphore. -/
def sched : Schedule (GSem nD τ sig) ℕ 𝕄 where
  duties g r := if g.1.2 = .tc then dutiesOf r (role g.2) else ∅
  unitless _ := False
  amount g _ u := amountOf u (role g.2)
  amount_pos g r u _ := amountOf_pos u (role g.2)
  payload g r u := payOf X Wt g.1.1 r u (role g.2)

instance sched_storable (g : GSem nD τ sig) (r u : ℕ) : BI.Storable (upEmb : UEmb _ 𝕄) ((sched X Wt).payload g r u) :=
  payOf_storable X Wt g.1.1 r u (role g.2)

variable (c : Dev nD) (d : Bool) (k : Fin 4)

theorem duties_eq (c : Dev nD) (sm : SemLoc sig) (r : ℕ) :
    (sched (F := F) X Wt).duties ((c : Thread nD τ), sm) r = dutiesOf r (role sm) := by
  show (if (c : Thread nD τ).2 = Proc.tc then dutiesOf r (role sm) else ∅) = _
  exact if_pos rfl

theorem duties_bar : (sched (F := F) X Wt).duties (bcell c) 0 = {0, 1} := by rw [duties_eq, role_bar]; rfl
theorem duties_cred : (sched (F := F) X Wt).duties (ccell c d) 0 = Finset.range 29 := by rw [duties_eq, role_cred]; rfl
theorem duties_rcv (r : ℕ) (h : r < 7) : (sched (F := F) X Wt).duties (rcell c d k) r = {0} := by rw [duties_eq, role_rcv]; exact if_pos h
theorem duties_snt (r : ℕ) (h : r < 7) : (sched (F := F) X Wt).duties (scell c d k) r = {0} := by rw [duties_eq, role_snt]; exact if_pos h
theorem duties_cpy (r : ℕ) (h : r < 4) : (sched (F := F) X Wt).duties (ocell c d k) r = {0} := by rw [duties_eq, role_cpy]; exact if_pos h

theorem amount_bar (r u : ℕ) : (sched (F := F) X Wt).amount (bcell c) r u = 1 := by show amountOf u (role (.reg bsem)) = _; rw [role_bar]; rfl
theorem amount_cred (r u : ℕ) : (sched (F := F) X Wt).amount (ccell c d) r u = if u = 0 then 4 else 1 := by
  show amountOf _ (role _) = _; rw [role_cred]; rfl
theorem amount_rcv (r u : ℕ) : (sched (F := F) X Wt).amount (rcell c d k) r u = N := by show amountOf _ (role _) = _; rw [role_rcv]; rfl
theorem amount_snt (r u : ℕ) : (sched (F := F) X Wt).amount (scell c d k) r u = N := by show amountOf _ (role _) = _; rw [role_snt]; rfl
theorem amount_cpy (r u : ℕ) : (sched (F := F) X Wt).amount (ocell c d k) r u = N := by show amountOf _ (role _) = _; rw [role_cpy]; rfl

theorem payload_bar (r u : ℕ) : (sched (F := F) X Wt).payload (bcell c) r u = barPay c (u == 1) := by
  show payOf X Wt c r u (role (.reg bsem)) = _; rw [role_bar]; rfl
theorem payload_cred (r u : ℕ) : (sched (F := F) X Wt).payload (ccell c d) r u = duePay (dst d c) d u := by
  show payOf X Wt c r u (role _) = _; rw [role_cred]; rfl
theorem payload_rcv (r u : ℕ) : (sched (F := F) X Wt).payload (rcell c d k) r u = rcvPay X Wt c d k r := by
  show payOf X Wt c r u (role _) = _; rw [role_rcv]; rfl
theorem payload_snt (r u : ℕ) : (sched (F := F) X Wt).payload (scell c d k) r u = sntPay X Wt c d k r := by
  show payOf X Wt c r u (role _) = _; rw [role_snt]; rfl
theorem payload_cpy (r u : ℕ) : (sched (F := F) X Wt).payload (ocell c d k) r u = cpyPay X Wt c d k r := by
  show payOf X Wt c r u (role _) = _; rw [role_cpy]; rfl

theorem expect_bar : (sched (F := F) X Wt).expect (bcell c) 0 = 2 := by
  unfold Schedule.expect Schedule.amountOf; rw [duties_bar]
  rw [Finset.sum_congr rfl fun u _ => amount_bar X Wt c 0 u]; rfl
theorem expect_cred : (sched (F := F) X Wt).expect (ccell c d) 0 = 32 := by
  unfold Schedule.expect Schedule.amountOf; rw [duties_cred]
  rw [Finset.sum_congr rfl fun u _ => amount_cred X Wt c d 0 u]; decide
theorem expect_rcv (r : ℕ) (h : r < 7) : (sched (F := F) X Wt).expect (rcell c d k) r = N := by
  unfold Schedule.expect Schedule.amountOf; rw [duties_rcv X Wt c d k r h, Finset.sum_singleton, amount_rcv]
theorem expect_snt (r : ℕ) (h : r < 7) : (sched (F := F) X Wt).expect (scell c d k) r = N := by
  unfold Schedule.expect Schedule.amountOf; rw [duties_snt X Wt c d k r h, Finset.sum_singleton, amount_snt]
theorem expect_cpy (r : ℕ) (h : r < 4) : (sched (F := F) X Wt).expect (ocell c d k) r = N := by
  unfold Schedule.expect Schedule.amountOf; rw [duties_cpy X Wt c d k r h, Finset.sum_singleton, amount_cpy]

theorem rest_bar : bigSep ((sched (F := F) X Wt).duties (bcell c) 0 \ ∅) (fun u => (sched X Wt).payload (bcell c) 0 u)
    = iprop(barPay (F := F) c false ∗ barPay (F := F) c true) := by
  rw [Finset.sdiff_empty, duties_bar, bigSep_insert (by decide), bigSep_singleton, payload_bar, payload_bar]; rfl
theorem rest_rcv (r : ℕ) (h : r < 7) : bigSep ((sched (F := F) X Wt).duties (rcell c d k) r \ ∅) (fun u => (sched X Wt).payload (rcell c d k) r u)
    = rcvPay X Wt c d k r := by
  rw [Finset.sdiff_empty, duties_rcv X Wt c d k r h, bigSep_singleton, payload_rcv]
theorem rest_snt (r : ℕ) (h : r < 7) : bigSep ((sched (F := F) X Wt).duties (scell c d k) r \ ∅) (fun u => (sched X Wt).payload (scell c d k) r u)
    = sntPay X Wt c d k r := by
  rw [Finset.sdiff_empty, duties_snt X Wt c d k r h, bigSep_singleton, payload_snt]
theorem rest_cpy (r : ℕ) (h : r < 4) : bigSep ((sched (F := F) X Wt).duties (ocell c d k) r \ ∅) (fun u => (sched X Wt).payload (ocell c d k) r u)
    = cpyPay X Wt c d k r := by
  rw [Finset.sdiff_empty, duties_cpy X Wt c d k r h, bigSep_singleton, payload_cpy]

theorem later_bar : ∀ r, 1 ≤ r → (sched (F := F) X Wt).duties (bcell c) r = ∅ := fun r h => by
  rw [duties_eq, role_bar]; exact if_neg (by omega)
theorem later_cred : ∀ r, 1 ≤ r → (sched (F := F) X Wt).duties (ccell c d) r = ∅ := fun r h => by
  rw [duties_eq, role_cred]; exact if_neg (by omega)
theorem later_rcv : ∀ r, 7 ≤ r → (sched (F := F) X Wt).duties (rcell c d k) r = ∅ := fun r h => by
  rw [duties_eq, role_rcv]; exact if_neg (by omega)
theorem later_snt : ∀ r, 7 ≤ r → (sched (F := F) X Wt).duties (scell c d k) r = ∅ := fun r h => by
  rw [duties_eq, role_snt]; exact if_neg (by omega)
theorem later_cpy : ∀ r, 4 ≤ r → (sched (F := F) X Wt).duties (ocell c d k) r = ∅ := fun r h => by
  rw [duties_eq, role_cpy]; exact if_neg (by omega)

end Pay

/-! ## Levels: the index under which something is owed is its level -/

def L (g : GSem nD τ sig) : Finset ℕ := if g.1.2 = .tc then Finset.range 65 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 65 := if_pos rfl

/-- The level of item `n`'s landing. -/
def rix (n : ℕ) : ℕ := 2 * n + 4
/-- The level of item `n`'s credit; the last four are waited for together. -/
def cix (n : ℕ) : ℕ := if n < 24 then 2 * n + 5 else 61

end Cert.Proof

end
-- ==== Proof.State.lean ====
/-
  What a device still has to do, and what it holds while it still has that to do.
-/
module

public import proofs.«01_k».proof.Proof.Protocol
public import Idealize.ShloMosaic.Lib.Pipeline.BigSepL

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Steps -/

/-- One step of a device. `d` is the ring, `n` the item, `t` the step whose rows of `x` are read. -/
inductive Op
  | ldx (d : Bool) (t : ℕ) | ldw
  | ldr (d : Bool) (n : ℕ) | ldd (d : Bool) (n : ℕ)
  | recv (d : Bool) (n : ℕ) | sw (d : Bool) (n : ℕ) | ow (d : Bool) (n : ℕ)
  | st (d : Bool) (n : ℕ) | give (d : Bool) (n : ℕ)
  | cw (d : Bool) (n : ℕ) | send (d : Bool) (n : ℕ) | out (d : Bool) (n : ℕ)
  | drain (d : Bool)
  deriving DecidableEq

namespace Op

/-- The slot whose state a step changes. -/
def at' : Op → Bool → ℕ → Bool
  | recv d n, d', k => d == d' && n % 4 == k
  | sw d n, d', k => d == d' && n % 4 == k
  | ow d n, d', k => d == d' && n % 4 == k
  | st d n, d', k => d == d' && n % 4 == k
  | give d n, d', k => d == d' && n % 4 == k
  | send d n, d', k => d == d' && n % 4 == k
  | out d n, d', k => d == d' && n % 4 == k
  | _, _, _ => false

end Op

/-- How far a slot has got: landings received, landings released, stores, sends, sends waited for, copies, copies waited for. -/
structure KC where
  r : ℕ
  g : ℕ
  t : ℕ
  s : ℕ
  w : ℕ
  o : ℕ
  v : ℕ
  deriving DecidableEq

/-- A slot at the end. -/
def KC.fin (k : ℕ) : KC := ⟨7, 7, cond (Nat.blt k 2) 8 7, 7, 7, 4, 4⟩

/-- A slot before a step, from the slot after it. -/
def Op.back : Op → KC → KC
  | .recv _ _, x => { x with r := x.r - 1 }
  | .give _ _, x => { x with g := x.g - 1 }
  | .st _ _, x => { x with t := x.t - 1 }
  | .send _ _, x => { x with s := x.s - 1 }
  | .sw _ _, x => { x with w := x.w - 1 }
  | .out _ _, x => { x with o := x.o - 1 }
  | .ow _ _, x => { x with v := x.v - 1 }
  | _, x => x

/-- A slot while `ops` are still to be done. -/
def ks : List Op → Bool → ℕ → KC
  | [], _, k => KC.fin k
  | op :: ops, d, k => cond (op.at' d k) (op.back (ks ops d k)) (ks ops d k)

/-- Credits taken while `ops` are still to be done. -/
def ys : List Op → Bool → ℕ
  | [], _ => 28
  | .cw d' _ :: ops, d => cond (d' == d) (ys ops d - 1) (ys ops d)
  | _ :: ops, d => ys ops d

/-- Credits given while `ops` are still to be done. -/
def zs : List Op → Bool → ℕ
  | [], _ => 28
  | .give d' _ :: ops, d => cond (d' == d) (zs ops d - 1) (zs ops d)
  | _ :: ops, d => zs ops d

/-- Whether the last credits have been waited for. -/
def drd : List Op → Bool → Bool
  | [], _ => true
  | .drain d' :: ops, d => cond (d' == d) false (drd ops d)
  | _ :: ops, d => drd ops d

/-- The level of what a step still owes; a step that owes nothing is above all. -/
def Op.low : Op → ℕ
  | .send _ n => rix n
  | .give _ n => cix n
  | _ => 64

/-- All that is still owed lies above level `a`, and below 64. -/
def above (a : ℕ) : List Op → Bool
  | [] => true
  | op :: ops => Nat.blt a op.low && Nat.ble op.low 64 && above a ops

/-- The level of the credit taken before item `n` is sent. -/
def wix (n : ℕ) : ℕ := cond (Nat.blt n 4) 2 (cix (n - 4))

/-- The round of item `n`'s copy to the result. -/
def ort (n : ℕ) : ℕ := (n - 14) / 4

/-- A step fits what has been done before it and what comes after it. -/
def Op.ok (op : Op) (ops : List Op) : Bool :=
  match op with
  | .ldx _ _ => true
  | .ldw => true
  | .drain d => Nat.beq (ys ops d) 28 && drd ops d && above 61 ops
  | .cw d n => Nat.beq (ys ops d) (n + 1) && above (wix n) ops && Nat.blt n 28 && !drd ops d
  | .recv d n => let x := ks ops d (n % 4)
      Nat.beq x.r (n / 4 + 1) && Nat.beq x.g (n / 4) && Nat.blt n 28 && above (rix n) ops
  | .ldr d n => let x := ks ops d (n % 4)
      Nat.beq x.r (n / 4 + 1) && Nat.beq x.g (n / 4)
  | .give d n => let x := ks ops d (n % 4)
      Nat.beq x.r (n / 4 + 1) && Nat.beq x.g (n / 4 + 1) && Nat.blt n 28 && Nat.beq (zs ops d) (n + 1)
  | .ldd d n => let x := ks ops d (n % 4)
      Nat.beq x.s x.w && Nat.beq x.o x.v && Nat.beq x.t (n / 4)
  | .st d n => let x := ks ops d (n % 4)
      Nat.beq x.t (n / 4 + 1) && Nat.beq x.s x.w && Nat.beq x.o x.v
  | .send d n => let x := ks ops d (n % 4)
      Nat.beq x.t (n / 4 + 1) && Nat.beq x.s (n / 4 + 1) && Nat.beq x.w (n / 4) && Nat.blt n 28 && Nat.beq (ys ops d) (n + 1) && !drd ops d
  | .sw d n => let x := ks ops d (n % 4)
      Nat.beq x.t (n / 4 + 1) && Nat.beq x.s (n / 4 + 1) && Nat.beq x.w (n / 4 + 1) && Nat.blt n 28 && above 0 ops
  | .out d n => let x := ks ops d (n % 4)
      Nat.beq x.t (n / 4 + 1) && Nat.beq x.o (ort n + 1) && Nat.beq x.v (ort n) && Nat.ble 14 n && Nat.blt n 30
  | .ow d n => let x := ks ops d (n % 4)
      Nat.beq x.t (n / 4 + 1) && Nat.beq x.o (ort n + 1) && Nat.beq x.v (ort n + 1) && Nat.ble 14 n && Nat.blt n 30 && above 0 ops

/-- Every step fits. -/
def Valid : List Op → Bool
  | [] => true
  | op :: ops => op.ok ops && Valid ops

/-! ## The trace -/

/-- Item `n` is sent on both rings, each after its credit. -/
def sendBoth (n : ℕ) : List Op := [.cw false n, .send false n, .cw true n, .send true n]

/-- The slot item `n` goes to is free: what was sent from it has left, what was copied from it has been copied. -/
def freed (d : Bool) (n : ℕ) : List Op :=
  (if 4 ≤ n then [.sw d (n - 4)] else []) ++ (if 18 ≤ n then [.ow d (n - 4)] else [])

/-- The partial products of step `t`. -/
def loads (t : ℕ) : List Op := [.ldx false t, .ldw, .ldx true t, .ldw]

/-- The first partial product of a ring is put into two slots. -/
def seed (d : Bool) : List Op := [.ldx d 0, .ldw, .ldd d 0, .st d 0, .ldd d 1, .st d 1]

/-- Reduce-scatter, item `n` on one ring. -/
def rsRing (d : Bool) (n : ℕ) : List Op :=
  [.recv d n, .ldr d n] ++ freed d (n + 2) ++ [.ldd d (n + 2), .st d (n + 2), .give d n] ++ (if 12 ≤ n then [.out d (n + 2)] else [])

/-- Reduce-scatter, item `n`. -/
def rsItem (n : ℕ) : List Op := rsRing false n ++ rsRing true n ++ sendBoth (n + 2)

/-- Reduce-scatter, step `s`. -/
def rsStep (s : ℕ) : List Op := rsItem (2 * s) ++ rsItem (2 * s + 1) ++ (if s < 6 then loads (s + 2) else [])

/-- All-gather, item `n` on one ring. -/
def agRing (d : Bool) (n : ℕ) : List Op :=
  [.recv d n] ++ freed d (n + 2) ++ [.ldr d n, .ldd d (n + 2), .st d (n + 2), .give d n, .out d (n + 2)]

/-- All-gather, item `n`. -/
def agItem (n : ℕ) : List Op := agRing false n ++ agRing true n ++ (if n < 26 then sendBoth (n + 2) else [])

/-- The end of a ring. -/
def drained (d : Bool) : List Op := [.drain d, .ow d 28, .ow d 29, .sw d 26, .ow d 26, .sw d 27, .ow d 27]

def gathers : List Op :=
  agItem 14 ++ (agItem 15 ++ (agItem 16 ++ (agItem 17 ++ (agItem 18 ++ (agItem 19 ++ (agItem 20 ++ (agItem 21 ++ (agItem 22 ++
    (agItem 23 ++ (agItem 24 ++ (agItem 25 ++ (agItem 26 ++ (agItem 27 ++ (drained false ++ drained true))))))))))))))

/-- Everything a device does after the barrier and the first credits. -/
def trace : List Op :=
  seed false ++ (seed true ++ (sendBoth 0 ++ (sendBoth 1 ++ (loads 1 ++ (rsStep 0 ++ (rsStep 1 ++ (rsStep 2 ++ (rsStep 3 ++
    (rsStep 4 ++ (rsStep 5 ++ (rsStep 6 ++ gathers)))))))))))

set_option maxRecDepth 100000 in
theorem valid_trace : Valid trace = true := by decide +kernel

end Cert.Proof

end
-- ==== Proof.Hold.lean ====
/-
  What a device holds while it still has some steps to do.
-/
module

public import proofs.«01_k».proof.Proof.State

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## What is owed -/

/-- What a step pays to another device. -/
def due (c : Dev nD) : Op → CellTallies nD τ sig ℕ
  | .send d n => tallyAt (rcell (dst d c) d (key n)) (rix n) N
  | .give d n => tallyAt (ccell (snd d c) d) (cix n) 1
  | _ => 0

/-- What the steps pay together. -/
def dues (c : Dev nD) : List Op → CellTallies nD τ sig ℕ
  | [] => 0
  | op :: ops => dues c ops + due c op

theorem tallyAt_pos {g g' : GSem nD τ sig} {i i' n : ℕ} (h : 0 < tallyAt g i n g' i') : g' = g ∧ i' = i := by
  by_contra hn
  rw [tallyAt_apply, if_neg (by rintro ⟨rfl, rfl⟩; exact hn ⟨rfl, rfl⟩)] at h
  exact absurd h (lt_irrefl 0)

theorem due_pos (c : Dev nD) (op : Op) {g : GSem nD τ sig} {i : ℕ} (h : 0 < due c op g i) :
    g.1.2 = .tc ∧ i = op.low ∧ op.low < 64 ∨ g.1.2 = .tc ∧ i = op.low := by
  cases op <;> first
    | exact absurd h (lt_irrefl 0)
    | (obtain ⟨rfl, rfl⟩ := tallyAt_pos h; exact .inr ⟨rfl, rfl⟩)

/-- Everything the steps pay lies above a level they all lie above. -/
theorem dues_pos (c : Dev nD) (a : ℕ) : ∀ ops : List Op, above a ops = true → ∀ (g : GSem nD τ sig) (i : ℕ), 0 < dues c ops g i →
    g.1.2 = .tc ∧ a < i ∧ i ≤ 64
  | [], _, g, i, h => absurd h (lt_irrefl 0)
  | op :: ops, hab, g, i, h => by
    simp only [above, Bool.and_eq_true, Nat.ble_eq, Nat.blt_eq] at hab
    rw [dues, Pi.add_apply, Finsupp.add_apply] at h
    rcases Nat.add_pos_iff_pos_or_pos.mp h with h | h
    · exact dues_pos c a ops hab.2 g i h
    · rcases due_pos c op h with ⟨h1, h2, -⟩ | ⟨h1, h2⟩ <;> exact ⟨h1, h2 ▸ hab.1.1, h2 ▸ hab.1.2⟩

/-- A wait below everything owed may wait. -/
theorem mayWait (c : Dev nD) (sm : SemLoc sig) (a : ℕ) (ha : a ≤ 64) (ops : List Op) (h : above a ops = true) :
    (levAts L lv : sProp 𝕄) ⊢ MayWait (c : Thread nD τ) sm a (dues c ops) :=
  Pipeline.mayWait_of_levAts (by rw [L_tc]; exact Finset.mem_range.mpr (by omega)) fun g i hg => by
    obtain ⟨h1, h2, h3⟩ := dues_pos c a ops h g i hg
    exact ⟨by rw [show L g = Finset.range 65 from if_pos h1]; exact Finset.mem_range.mpr (by omega), h2⟩

/-! ## Taking one of many -/

section Many

variable {M : Type} [URA M] {I : Type} [DecidableEq I]

theorem pick {s : Finset I} (Φ : I → sProp M) (i : I) (h : i ∈ s) : bigSep s Φ ⊢ Φ i := BI.bigSep_elim h

theorem pickU [Fintype I] (Φ : I → sProp M) (i : I) : bigSep Finset.univ Φ ⊢ Φ i := BI.bigSep_elim (Finset.mem_univ i)

theorem split_at [Fintype I] (Φ : I → sProp M) (i : I) : bigSep Finset.univ Φ = iprop(Φ i ∗ bigSep (Finset.univ.erase i) Φ) :=
  BI.bigSep_univ_split i

theorem sep_insert {s : Finset I} (Φ : I → sProp M) (i : I) (h : i ∉ s) : bigSep (insert i s) Φ = iprop(Φ i ∗ bigSep s Φ) :=
  bigSep_insert h

theorem sep_sdiff {s t : Finset I} (Φ : I → sProp M) (h : t ⊆ s) : bigSep s Φ = iprop(bigSep t Φ ∗ bigSep (s \ t) Φ) :=
  BI.bigSep_sdiff_split h

end Many

/-! ## What is held -/

section Held

variable (X : Dev nD → Vec F S4096x512 .bf16) (Wt : Dev nD → Vec F S512x8192 .bf16)

/-- The content of a landing slot while nobody reads it. -/
abbrev landSlot (x : Dev nD) (d : Bool) (k : Fin 4) : sProp 𝕄 :=
  Release.slot ((slotM (rbuf d) k).view.loc (x : Thread nD τ)) (slotM (rbuf d) k).view.set

/-- The landing slot, in the reader's hands: between a landing and its release, and after the last. -/
def landed (c : Dev nD) (d : Bool) (k : Fin 4) (x : KC) : sProp 𝕄 :=
  if x.r = x.g + 1 then owns (c : Thread nD τ) (slotM (rbuf d) k) fullShare (item X Wt (snd d c) d (4 * x.g + k.val))
  else if x.g = 7 then landSlot (F := F) c d k
  else iprop(emp)

/-- The slot sent from: nothing stored yet, or halves, each in hand or lent to a copy in flight. -/
def sending (c : Dev nD) (d : Bool) (k : Fin 4) (x : KC) : sProp 𝕄 :=
  if x.t = 0 then iprop(∃ Z, owns (c : Thread nD τ) (slotM (sbuf d) k) fullShare Z)
  else iprop((if x.s = x.w then owns (c : Thread nD τ) (slotM (sbuf d) k) fullShare.left (item X Wt c d (4 * (x.t - 1) + k.val))
      else cred (tallyAt (scell c d k) 0 N))
    ∗ (if x.o = x.v then owns (c : Thread nD τ) (slotM (sbuf d) k) fullShare.right (item X Wt c d (4 * (x.t - 1) + k.val))
      else cred (tallyAt (ocell c d k) 0 N)))

/-- The rows of the result written from a slot so far. -/
def written (c : Dev nD) (d : Bool) (k : Fin 4) (v : ℕ) : sProp 𝕄 :=
  bigSep (Finset.range v) fun r => owns (c : Thread nD τ) (outM c d (oit k r)) fullShare (item X Wt c d (oit k r))

/-- What a device holds for one slot of a ring. -/
def KS (c : Dev nD) (d : Bool) (k : Fin 4) (x : KC) : sProp 𝕄 :=
  iprop(atPos ER (rcell c d k) x.r ∅ 0 ∗ reached ER (rcell c d k) x.r ∗ Release.readerAt EV ((c, d, k) : Key) (min (x.g + 1) 7) ∗ landed X Wt c d k x
    ∗ atPos ER (scell c d k) x.w ∅ 0 ∗ reached ER (scell c d k) x.w
    ∗ atPos ER (ocell c d k) x.v ∅ 0 ∗ reached ER (ocell c d k) x.v
    ∗ sending X Wt c d k x ∗ written X Wt c d k x.v)

def KSall (c : Dev nD) (ops : List Op) : sProp 𝕄 :=
  bigSep Finset.univ fun p : Bool × Fin 4 => KS X Wt c p.1 p.2 (ks ops p.1 p.2.val)

theorem KS_peek (c : Dev nD) (ops : List Op) (d : Bool) (k : Fin 4) :
    KSall X Wt c ops ⊢ iprop(KS X Wt c d k (ks ops d k.val) ∗ (KS X Wt c d k (ks ops d k.val) -∗ KSall X Wt c ops)) := by
  unfold KSall
  rw [split_at _ ((d, k) : Bool × Fin 4)]
  iintro ⟨H, Hr⟩
  isplitl [H]; · iexact H
  iintro H
  isplitl [H]; · iexact H
  iexact Hr

theorem KS_step (c : Dev nD) (op : Op) (ops : List Op) (d : Bool) (k : Fin 4) (h : ∀ d' (k' : Fin 4), op.at' d' k'.val = decide (d' = d ∧ k' = k)) :
    KSall X Wt c (op :: ops) ⊢ iprop(KS X Wt c d k (op.back (ks ops d k.val)) ∗ (KS X Wt c d k (ks ops d k.val) -∗ KSall X Wt c ops)) := by
  unfold KSall
  rw [split_at _ ((d, k) : Bool × Fin 4), split_at (fun p : Bool × Fin 4 => KS X Wt c p.1 p.2 (ks ops p.1 p.2.val)) ((d, k) : Bool × Fin 4)]
  have h1 : ks (op :: ops) d k.val = op.back (ks ops d k.val) := by
    rw [ks, h d k]; simp
  have h2 : bigSep (Finset.univ.erase ((d, k) : Bool × Fin 4)) (fun p : Bool × Fin 4 => KS X Wt c p.1 p.2 (ks (op :: ops) p.1 p.2.val))
      = bigSep (Finset.univ.erase ((d, k) : Bool × Fin 4)) (fun p : Bool × Fin 4 => KS X Wt c p.1 p.2 (ks ops p.1 p.2.val)) :=
    BI.bigSep_congr fun p hp => by
      have hne : ¬(p.1 = d ∧ p.2 = k) := fun hh => (Finset.mem_erase.mp hp).1 (Prod.ext hh.1 hh.2)
      rw [ks, h p.1 p.2, decide_eq_false hne]; rfl
  rw [h2]
  dsimp only
  rw [h1]
  iintro ⟨H, Hr⟩
  isplitl [H]; · iexact H
  iintro H
  isplitl [H]; · iexact H
  iexact Hr

/-- The step changes the slot of its item. -/
theorem at_eq (d : Bool) (n : ℕ) (d' : Bool) (k' : Fin 4) : (d == d' && n % 4 == k'.val) = decide (d' = d ∧ k' = key n) := by
  rw [Bool.eq_iff_iff]
  simp only [Bool.and_eq_true, beq_iff_eq, decide_eq_true_eq]
  constructor
  · rintro ⟨rfl, h⟩; exact ⟨rfl, Fin.ext h.symm⟩
  · rintro ⟨rfl, rfl⟩; exact ⟨rfl, rfl⟩

/-- The slot of a step's item, before the step; and how what is held for it is put back. -/
theorem KS_item (c : Dev nD) (op : Op) (ops : List Op) (d : Bool) (n : ℕ) (h : ∀ d' (k' : Fin 4), op.at' d' k'.val = decide (d' = d ∧ k' = key n)) :
    KSall X Wt c (op :: ops) ⊢ iprop(KS X Wt c d (key n) (op.back (ks ops d (n % 4))) ∗ (KS X Wt c d (key n) (ks ops d (n % 4)) -∗ KSall X Wt c ops)) :=
  KS_step X Wt c op ops d (key n) h

theorem KS_look (c : Dev nD) (ops : List Op) (d : Bool) (n : ℕ) :
    KSall X Wt c ops ⊢ iprop(KS X Wt c d (key n) (ks ops d (n % 4)) ∗ (KS X Wt c d (key n) (ks ops d (n % 4)) -∗ KSall X Wt c ops)) :=
  KS_peek X Wt c ops d (key n)

/-! ### The credits of a ring -/

/-- The credits received: how many have been waited for, and what they told. -/
def CS (c : Dev nD) (d : Bool) (y : ℕ) : Bool → sProp 𝕄
  | true => atPos ER (ccell c d) 1 ∅ 0
  | false => iprop(∃ T : Finset ℕ, ⌜T ⊆ Finset.range 29 ∧ y ≤ T.card + 3⌝ ∗ atPos ER (ccell c d) 0 T y ∗ bigSep T (duePay (F := F) (dst d c) d))

/-- What a device holds for a ring: the credits received, and what the credits to be given will tell. -/
def RS (c : Dev nD) (d : Bool) (y z : ℕ) (b : Bool) : sProp 𝕄 := iprop(CS (F := F) c d y b ∗ bigSep (Finset.range z) (fact (F := F) c d))

def RSall (c : Dev nD) (ops : List Op) : sProp 𝕄 :=
  bigSep Finset.univ fun d : Bool => RS (F := F) c d (ys ops d) (zs ops d) (drd ops d)

theorem RS_step (c : Dev nD) (op : Op) (ops : List Op) (d : Bool)
    (h : ys (op :: ops) (!d) = ys ops (!d) ∧ zs (op :: ops) (!d) = zs ops (!d) ∧ drd (op :: ops) (!d) = drd ops (!d)) :
    RSall (F := F) c (op :: ops) ⊢ iprop(RS c d (ys (op :: ops) d) (zs (op :: ops) d) (drd (op :: ops) d)
      ∗ (RS c d (ys ops d) (zs ops d) (drd ops d) -∗ RSall c ops)) := by
  unfold RSall
  have hu : (Finset.univ : Finset Bool) = insert d {!d} := by cases d <;> decide
  have hd : d ∉ ({!d} : Finset Bool) := by cases d <;> decide
  rw [hu, sep_insert _ _ hd, sep_insert _ _ hd, bigSep_singleton, bigSep_singleton, h.1, h.2.1, h.2.2]
  iintro ⟨H, Hr⟩
  isplitl [H]; · iexact H
  iintro H
  isplitl [H]; · iexact H
  iexact Hr

/-! ### What each step needs -/

/-- What a step needs that no other step of the device needs. -/
def Tok (c : Dev nD) : Op → sProp 𝕄
  | .send d n => iprop(dutyTok ER (scell c d (key n)) (n / 4) 0 ∗ dutyTok ER (rcell (dst d c) d (key n)) (n / 4) 0
      ∗ Release.writeTok EV ((dst d c, d, key n) : Key) (n / 4 + 1))
  | .recv d n => cred (tallyAt (rcell c d (key n)) (rix n) N)
  | .give d n => dutyTok ER (ccell (snd d c) d) 0 (n + 1)
  | .cw d n => cred (tallyAt (ccell c d) (wix n) 1)
  | .drain d => cred (tallyAt (ccell c d) 61 4)
  | .out d n => iprop(dutyTok ER (ocell c d (key n)) (ort n) 0 ∗ ∃ Z, owns (c : Thread nD τ) (outM c d n) fullShare Z)
  | _ => iprop(emp)

def Toks0 (c : Dev nD) (ops : List Op) : sProp 𝕄 := bigSepL ops (Tok (F := F) c)

/-- What the steps need, and the barrier's counter, which is done with. -/
def Toks (c : Dev nD) (ops : List Op) : sProp 𝕄 := iprop(Toks0 c ops ∗ atPos ER (bcell c) 1 ∅ 0)

theorem Toks_cons (c : Dev nD) (op : Op) (ops : List Op) : Toks (F := F) c (op :: ops) = iprop(Tok c op ∗ Toks c ops) := by
  unfold Toks Toks0
  rw [bigSepL_cons' op ops _]
  exact equiv_iff.mp ⟨BI.sep_assoc, BI.sep_assoc'⟩

/-! ### The whole -/

variable (κ : GSem nD τ sig → ℕ) (ιs : Key → ℕ)

/-- What every device may use for ever. -/
def Ctx : sProp 𝕄 :=
  iprop((bigSep Finset.univ fun q : Dev nD × Bool × Fin 4 => iprop(cellInv ER (sched X Wt) (κ (rcell q.1 q.2.1 q.2.2)) (rcell q.1 q.2.1 q.2.2)
      ∗ cellInv ER (sched X Wt) (κ (scell q.1 q.2.1 q.2.2)) (scell q.1 q.2.1 q.2.2)
      ∗ cellInv ER (sched X Wt) (κ (ocell q.1 q.2.1 q.2.2)) (ocell q.1 q.2.1 q.2.2)
      ∗ Release.slotInv EV (ιs q) q (landSlot (F := F) q.1 q.2.1 q.2.2)))
    ∗ (bigSep Finset.univ fun q : Dev nD × Bool => cellInv ER (sched X Wt) (κ (ccell q.1 q.2)) (ccell q.1 q.2))
    ∗ levAts L lv)

instance Ctx_persistent : BI.Persistent (Ctx X Wt κ ιs) := by unfold Ctx; infer_instance

theorem Ctx_r (c : Dev nD) (d : Bool) (k : Fin 4) : Ctx X Wt κ ιs ⊢ cellInv ER (sched X Wt) (κ (rcell c d k)) (rcell c d k) := by
  unfold Ctx
  iintro ⟨H, -, -⟩
  ihave H := (pickU _ (((c, d, k) : Dev nD × Bool × Fin 4))) $$ H
  icases H with ⟨H, -⟩
  iexact H
theorem Ctx_s (c : Dev nD) (d : Bool) (k : Fin 4) : Ctx X Wt κ ιs ⊢ cellInv ER (sched X Wt) (κ (scell c d k)) (scell c d k) := by
  unfold Ctx
  iintro ⟨H, -, -⟩
  ihave H := (pickU _ (((c, d, k) : Dev nD × Bool × Fin 4))) $$ H
  icases H with ⟨-, H, -⟩
  iexact H
theorem Ctx_o (c : Dev nD) (d : Bool) (k : Fin 4) : Ctx X Wt κ ιs ⊢ cellInv ER (sched X Wt) (κ (ocell c d k)) (ocell c d k) := by
  unfold Ctx
  iintro ⟨H, -, -⟩
  ihave H := (pickU _ (((c, d, k) : Dev nD × Bool × Fin 4))) $$ H
  icases H with ⟨-, -, H, -⟩
  iexact H
theorem Ctx_slot (c : Dev nD) (d : Bool) (k : Fin 4) : Ctx X Wt κ ιs ⊢ Release.slotInv EV (ιs (c, d, k)) ((c, d, k) : Key) (landSlot (F := F) c d k) := by
  unfold Ctx
  iintro ⟨H, -, -⟩
  ihave H := (pickU _ (((c, d, k) : Dev nD × Bool × Fin 4))) $$ H
  icases H with ⟨-, -, -, H⟩
  iexact H
theorem Ctx_c (c : Dev nD) (d : Bool) : Ctx X Wt κ ιs ⊢ cellInv ER (sched X Wt) (κ (ccell c d)) (ccell c d) := by
  unfold Ctx
  iintro ⟨-, H, -⟩
  ihave H := (pickU _ (((c, d) : Dev nD × Bool))) $$ H
  iexact H
theorem Ctx_lev : Ctx X Wt κ ιs ⊢ levAts L lv := by
  unfold Ctx
  iintro ⟨-, -, H⟩
  iexact H

/-- What the barrier told. -/
def Told (c : Dev nD) : sProp 𝕄 :=
  bigSep Finset.univ fun d : Bool => iprop(slotFacts (F := F) (dst d c) d ∗ reached ER (ccell (snd d c) d) 0)

instance Told_persistent (c : Dev nD) : BI.Persistent (Told (F := F) c) := by unfold Told; infer_instance

theorem Told_slot (c : Dev nD) (d : Bool) (k : Fin 4) :
    Told (F := F) c ⊢ iprop(reached ER (rcell (dst d c) d k) 0 ∗ Release.released EV ((dst d c, d, k) : Key) 1) := by
  unfold Told
  iintro H
  ihave H := (pickU _ (d)) $$ H
  icases H with ⟨H, -⟩
  unfold slotFacts
  ihave H := (pickU _ (k)) $$ H
  iexact H
theorem Told_cred (c : Dev nD) (d : Bool) : Told (F := F) c ⊢ reached ER (ccell (snd d c) d) 0 := by
  unfold Told
  iintro H
  ihave H := (pickU _ (d)) $$ H
  icases H with ⟨-, H⟩
  iexact H

variable (m0 : Memref sig .tc .vmem S4096x512 .bf16) (m1 : Memref sig .tc .vmem S512x8192 .bf16)

/-- Everything device `c` holds while `ops` are still to be done. -/
def St (c : Dev nD) (ops : List Op) : sProp 𝕄 :=
  iprop(Ctx X Wt κ ιs ∗ Told (F := F) c ∗ (∃ W, owes (c : Thread nD τ) (dues c ops) W)
    ∗ (owns (c : Thread nD τ) m0 fullShare (X c) ∗ owns (c : Thread nD τ) m1 fullShare (Wt c))
    ∗ KSall X Wt c ops ∗ RSall (F := F) c ops ∗ Toks (F := F) c ops)

end Held

end Cert.Proof

end
-- ==== Proof.Slots.lean ====
/-
  What each step takes from what is held for its slot, and what it puts back.
-/
module

public import proofs.«01_k».proof.Proof.Hold

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Dev nD → Vec F S4096x512 .bf16) (Wt : Dev nD → Vec F S512x8192 .bf16)

theorem n_eq (n : ℕ) : 4 * (n / 4) + n % 4 = n := Nat.div_add_mod n 4

theorem oit_eq (n : ℕ) (h : 14 ≤ n) (h' : n < 30) : oit (key n) (ort n) = n := by
  unfold oit ort key
  dsimp only
  split <;> omega

/-- A landing slot at contents not named. -/
theorem landSlot_of (c : Dev nD) (d : Bool) (k : Fin 4) (v : FVec F S128x8192 .bf16) :
    owns (c : Thread nD τ) (slotM (rbuf d) k) fullShare v ⊢ landSlot (F := F) c d k := by
  unfold owns landSlot Release.slot
  iintro ⟨%f, -, H⟩
  iexists f
  iexact H

variable (c : Dev nD) (d : Bool) (n : ℕ) (x : KC)

theorem KS_recv (hr : x.r = n / 4 + 1) (hg : x.g = n / 4) :
    KS X Wt c d (key n) ((Op.recv d n).back x) ⊢ iprop(atPos ER (rcell c d (key n)) (n / 4) ∅ 0
      ∗ (iprop(atPos ER (rcell c d (key n)) (n / 4 + 1) ∅ 0 ∗ reached ER (rcell c d (key n)) (n / 4 + 1)
          ∗ owns (c : Thread nD τ) (slotM (rbuf d) (key n)) fullShare (item X Wt (snd d c) d n)) -∗ KS X Wt c d (key n) x)) := by
  obtain ⟨r, g, t, s, w, o, v⟩ := x
  dsimp only at hr hg
  subst hr; subst hg
  dsimp only [Op.back, KS, landed, sending]
  rw [if_pos rfl, n_eq, Nat.add_sub_cancel]
  iintro ⟨Hr, -, Ha, -, Hs⟩
  isplitl [Hr]; · iexact Hr
  iintro ⟨Hr, Hrr, Hl⟩
  isplitl [Hr]; · iexact Hr
  isplitl [Hrr]; · iexact Hrr
  isplitl [Ha]; · iexact Ha
  isplitl [Hl]; · iexact Hl
  iexact Hs

theorem KS_ldr (hr : x.r = n / 4 + 1) (hg : x.g = n / 4) :
    KS X Wt c d (key n) x ⊢ iprop(owns (c : Thread nD τ) (slotM (rbuf d) (key n)) fullShare (item X Wt (snd d c) d n)
      ∗ (owns (c : Thread nD τ) (slotM (rbuf d) (key n)) fullShare (item X Wt (snd d c) d n) -∗ KS X Wt c d (key n) x)) := by
  obtain ⟨r, g, t, s, w, o, v⟩ := x
  dsimp only at hr hg
  subst hr; subst hg
  dsimp only [Op.back, KS, landed, sending]
  rw [if_pos rfl, n_eq]
  iintro ⟨Hr, Hrr, Ha, Hl, Hs⟩
  isplitl [Hl]; · iexact Hl
  iintro Hl
  isplitl [Hr]; · iexact Hr
  isplitl [Hrr]; · iexact Hrr
  isplitl [Ha]; · iexact Ha
  isplitl [Hl]; · iexact Hl
  iexact Hs

theorem KS_give (hn : n < 24) (hr : x.r = n / 4 + 1) (hg : x.g = n / 4 + 1) :
    KS X Wt c d (key n) ((Op.give d n).back x) ⊢ iprop((landSlot (F := F) c d (key n)
        ∗ Release.readerAt EV ((c, d, key n) : Key) (n / 4 + 1) ∗ reached ER (rcell c d (key n)) (n / 4 + 1))
      ∗ (Release.readerAt EV ((c, d, key n) : Key) (n / 4 + 2) -∗ KS X Wt c d (key n) x)) := by
  obtain ⟨r, g, t, s, w, o, v⟩ := x
  dsimp only at hr hg
  subst hr; subst hg
  dsimp only [Op.back, KS, landed, sending]
  rw [Nat.add_sub_cancel, if_pos rfl, if_neg (show ¬ n / 4 + 1 = n / 4 + 1 + 1 by omega), if_neg (show ¬ n / 4 + 1 = 7 by omega),
    show min (n / 4 + 1) 7 = n / 4 + 1 by omega, show min (n / 4 + 1 + 1) 7 = n / 4 + 2 by omega]
  iintro ⟨Hr, #Hrr, Ha, Hl, Hs⟩
  isplitl [Hl Ha]
  · isplitl [Hl]; · iapply (landSlot_of c d (key n)); iexact Hl
    isplitl [Ha]; · iexact Ha
    iexact Hrr
  iintro Ha
  isplitl [Hr]; · iexact Hr
  isplitr; · iexact Hrr
  isplitl [Ha]; · iexact Ha
  isplitr; · iempintro
  iexact Hs

theorem KS_keep (hn : 24 ≤ n) (hn' : n < 28) (hr : x.r = n / 4 + 1) (hg : x.g = n / 4 + 1) :
    KS X Wt c d (key n) ((Op.give d n).back x) ⊢ KS X Wt c d (key n) x := by
  obtain ⟨r, g, t, s, w, o, v⟩ := x
  dsimp only at hr hg
  have h6 : n / 4 = 6 := by omega
  rw [h6] at hr hg
  subst hr; subst hg
  have e1 : landed X Wt c d (key n) ⟨6 + 1, 6 + 1 - 1, t, s, w, o, v⟩ = owns (c : Thread nD τ) (slotM (rbuf d) (key n)) fullShare (item X Wt (snd d c) d (4 * 6 + (key n).val)) := if_pos rfl
  have e2 : landed X Wt c d (key n) ⟨6 + 1, 6 + 1, t, s, w, o, v⟩ = landSlot (F := F) c d (key n) := if_neg (show ¬ 6 + 1 = 6 + 1 + 1 by decide) |>.trans (if_pos rfl)
  unfold KS
  dsimp only [Op.back]
  rw [e1, e2]
  iintro ⟨Hr, Hrr, Ha, Hl, Hs⟩
  isplitl [Hr]; · iexact Hr
  isplitl [Hrr]; · iexact Hrr
  isplitl [Ha]; · iexact Ha
  isplitl [Hl]; · iapply (landSlot_of c d (key n)); iexact Hl
  iexact Hs

theorem KS_ldd (hs : x.s = x.w) (ho : x.o = x.v) :
    KS X Wt c d (key n) x ⊢ iprop(∃ q, ∃ Z, owns (c : Thread nD τ) (slotM (sbuf d) (key n)) q Z
      ∗ (owns (c : Thread nD τ) (slotM (sbuf d) (key n)) q Z -∗ KS X Wt c d (key n) x)) := by
  obtain ⟨r, g, t, s, w, o, v⟩ := x
  dsimp only at hs ho
  subst hs; subst ho
  dsimp only [Op.back, KS, sending]
  by_cases ht : t = 0
  · rw [if_pos ht]
    iintro ⟨H1, H2, H3, H4, H5, H6, H7, H8, ⟨%Z, Hb⟩, Hw⟩
    iexists fullShare; iexists Z
    isplitl [Hb]; · iexact Hb
    iintro Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hb]; · iexists Z; iexact Hb
    iexact Hw
  · rw [if_neg ht, if_pos rfl, if_pos rfl]
    iintro ⟨H1, H2, H3, H4, H5, H6, H7, H8, ⟨Hb, Hb'⟩, Hw⟩
    iexists fullShare.left; iexists (item X Wt c d (4 * (t - 1) + (key n).val))
    isplitl [Hb]; · iexact Hb
    iintro Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hb Hb']
    · isplitl [Hb]; · iexact Hb
      iexact Hb'
    iexact Hw

theorem KS_st (ht : x.t = n / 4 + 1) (hs : x.s = x.w) (ho : x.o = x.v) :
    KS X Wt c d (key n) ((Op.st d n).back x) ⊢ iprop(∃ Z, owns (c : Thread nD τ) (slotM (sbuf d) (key n)) fullShare Z
      ∗ (owns (c : Thread nD τ) (slotM (sbuf d) (key n)) fullShare (item X Wt c d n) -∗ KS X Wt c d (key n) x)) := by
  obtain ⟨r, g, t, s, w, o, v⟩ := x
  dsimp only at ht hs ho
  subst ht; subst hs; subst ho
  dsimp only [Op.back, KS, landed, sending]
  simp only [Nat.add_sub_cancel, if_true, n_eq, if_neg (Nat.succ_ne_zero _)]
  have key1 : (if n / 4 = 0 then iprop(∃ Z, owns (c : Thread nD τ) (slotM (sbuf d) (key n)) fullShare Z)
      else iprop(owns (c : Thread nD τ) (slotM (sbuf d) (key n)) fullShare.left (item X Wt c d (4 * (n / 4 - 1) + (key n).val))
        ∗ owns (c : Thread nD τ) (slotM (sbuf d) (key n)) fullShare.right (item X Wt c d (4 * (n / 4 - 1) + (key n).val))) : sProp 𝕄)
      ⊢ iprop(∃ Z, owns (c : Thread nD τ) (slotM (sbuf d) (key n)) fullShare Z) := by
    split
    · iintro H; iexact H
    · iintro H
      iexists (item X Wt c d (4 * (n / 4 - 1) + (key n).val))
      iapply (owns_halves (c : Thread nD τ) (slotM (sbuf d) (key n)) fullShare _).2
      iexact H
  iintro ⟨H1, H2, H3, H4, H5, H6, H7, H8, Hb, Hw⟩
  ihave Hb := key1 $$ Hb
  icases Hb with ⟨%Z, Hb⟩
  iexists Z
  isplitl [Hb]; · iexact Hb
  iintro Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb]
  · iapply (owns_halves (c : Thread nD τ) (slotM (sbuf d) (key n)) fullShare _).1
    iexact Hb
  iexact Hw

theorem KS_send (ht : x.t = n / 4 + 1) (hs : x.s = n / 4 + 1) (hw : x.w = n / 4) :
    KS X Wt c d (key n) ((Op.send d n).back x) ⊢ iprop((owns (c : Thread nD τ) (slotM (sbuf d) (key n)) fullShare.left (item X Wt c d n)
        ∗ reached ER (scell c d (key n)) (n / 4))
      ∗ (cred (tallyAt (scell c d (key n)) 0 N) -∗ KS X Wt c d (key n) x)) := by
  obtain ⟨r, g, t, s, w, o, v⟩ := x
  dsimp only at ht hs hw
  subst ht; subst hs; subst hw
  dsimp only [Op.back, KS, sending]
  rw [if_neg (Nat.succ_ne_zero _), if_neg (Nat.succ_ne_zero _), Nat.add_sub_cancel, if_pos rfl, if_neg (Nat.succ_ne_self (n / 4)), n_eq]
  iintro ⟨H1, H2, H3, H4, H5, #H6, H7, H8, ⟨Hb, Hb'⟩, Hw⟩
  isplitl [Hb]
  · isplitl [Hb]; · iexact Hb
    iexact H6
  iintro Hc
  isplitl [H1]; · iexact H1
  isplitl [H2]; · iexact H2
  isplitl [H3]; · iexact H3
  isplitl [H4]; · iexact H4
  isplitl [H5]; · iexact H5
  isplitr; · iexact H6
  isplitl [H7]; · iexact H7
  isplitl [H8]; · iexact H8
  isplitl [Hc Hb']
  · isplitl [Hc]; · iexact Hc
    iexact Hb'
  iexact Hw

theorem KS_sw (ht : x.t = n / 4 + 1) (hs : x.s = n / 4 + 1) (hw : x.w = n / 4 + 1) :
    KS X Wt c d (key n) ((Op.sw d n).back x) ⊢ iprop((cred (tallyAt (scell c d (key n)) 0 N) ∗ atPos ER (scell c d (key n)) (n / 4) ∅ 0)
      ∗ (iprop(atPos ER (scell c d (key n)) (n / 4 + 1) ∅ 0 ∗ reached ER (scell c d (key n)) (n / 4 + 1)
          ∗ owns (c : Thread nD τ) (slotM (sbuf d) (key n)) fullShare.left (item X Wt c d n)) -∗ KS X Wt c d (key n) x)) := by
  obtain ⟨r, g, t, s, w, o, v⟩ := x
  dsimp only at ht hs hw
  subst ht; subst hs; subst hw
  dsimp only [Op.back, KS, sending]
  rw [if_neg (Nat.succ_ne_zero _), if_neg (Nat.succ_ne_zero _), Nat.add_sub_cancel, if_neg (Nat.succ_ne_self (n / 4)), if_pos rfl, n_eq]
  iintro ⟨H1, H2, H3, H4, H5, -, H7, H8, ⟨Hb, Hb'⟩, Hw⟩
  isplitl [Hb H5]
  · isplitl [Hb]; · iexact Hb
    iexact H5
  iintro ⟨H5, H6, Hb⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb Hb']
  · isplitl [Hb]; · iexact Hb
    iexact Hb'
  iexact Hw

theorem KS_out (ht : x.t = n / 4 + 1) (ho : x.o = ort n + 1) (hv : x.v = ort n) :
    KS X Wt c d (key n) ((Op.out d n).back x) ⊢ iprop((owns (c : Thread nD τ) (slotM (sbuf d) (key n)) fullShare.right (item X Wt c d n)
        ∗ reached ER (ocell c d (key n)) (ort n))
      ∗ (cred (tallyAt (ocell c d (key n)) 0 N) -∗ KS X Wt c d (key n) x)) := by
  obtain ⟨r, g, t, s, w, o, v⟩ := x
  dsimp only at ht ho hv
  subst ht; subst ho; subst hv
  dsimp only [Op.back, KS, sending]
  rw [if_neg (Nat.succ_ne_zero _), if_neg (Nat.succ_ne_zero _), Nat.add_sub_cancel, if_pos rfl, if_neg (Nat.succ_ne_self (ort n)), Nat.add_sub_cancel, n_eq]
  iintro ⟨H1, H2, H3, H4, H5, H6, H7, #H8, ⟨Hb, Hb'⟩, Hw⟩
  isplitl [Hb']
  · isplitl [Hb']; · iexact Hb'
    iexact H8
  iintro Hc
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr; · iexact H8
  isplitl [Hc Hb]
  · isplitl [Hb]; · iexact Hb
    iexact Hc
  iexact Hw

theorem KS_ow (hn : 14 ≤ n) (hn' : n < 30) (ht : x.t = n / 4 + 1) (ho : x.o = ort n + 1) (hv : x.v = ort n + 1) :
    KS X Wt c d (key n) ((Op.ow d n).back x) ⊢ iprop((cred (tallyAt (ocell c d (key n)) 0 N) ∗ atPos ER (ocell c d (key n)) (ort n) ∅ 0)
      ∗ (iprop(atPos ER (ocell c d (key n)) (ort n + 1) ∅ 0 ∗ reached ER (ocell c d (key n)) (ort n + 1)
          ∗ owns (c : Thread nD τ) (slotM (sbuf d) (key n)) fullShare.right (item X Wt c d n)
          ∗ owns (c : Thread nD τ) (outM c d n) fullShare (item X Wt c d n)) -∗ KS X Wt c d (key n) x)) := by
  obtain ⟨r, g, t, s, w, o, v⟩ := x
  dsimp only at ht ho hv
  subst ht; subst ho; subst hv
  have hw : written X Wt c d (key n) (ort n + 1) = iprop(owns (c : Thread nD τ) (outM c d n) fullShare (item X Wt c d n) ∗ written X Wt c d (key n) (ort n)) := by
    unfold written
    rw [Finset.range_add_one, sep_insert _ _ Finset.notMem_range_self]
    rw [oit_eq n hn hn']
  dsimp only [Op.back, KS, sending]
  rw [hw]
  rw [if_neg (Nat.succ_ne_zero _), if_neg (Nat.succ_ne_zero _), Nat.add_sub_cancel, Nat.add_sub_cancel, n_eq, if_neg (Nat.succ_ne_self (ort n)), if_pos rfl]
  iintro ⟨H1, H2, H3, H4, H5, H6, H7, -, ⟨Hb, Hc⟩, Hw⟩
  isplitl [Hc H7]
  · isplitl [Hc]; · iexact Hc
    iexact H7
  iintro ⟨H7, H8, Hb', Ho⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hb Hb']
  · isplitl [Hb]; · iexact Hb
    iexact Hb'
  isplitl [Ho]; · iexact Ho
  iexact Hw

end Cert.Proof

end
-- ==== Proof.Steps.lean ====
/-
  One lemma per kind of step: a step that fits is safe, and afterwards the device holds what it holds before the next one.
-/
module

public import proofs.«01_k».proof.Proof.Slots

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- The kernel calls nothing. -/
abbrev 𝒱₀ : Variants := Variants.none

theorem Valid_cons {op : Op} {ops : List Op} (h : Valid (op :: ops) = true) : op.ok ops = true ∧ Valid ops = true := by
  simpa only [Valid, Bool.and_eq_true] using h

theorem credit_any {sp : Space} (m : Memref sig .tc sp S128x8192 .bf16) : m.view.dmaCredit = N := N_tile

/-- A program that does `ops`, from what the device holds before them. -/
def Goal (X : Dev nD → Vec F S4096x512 .bf16) (Wt : Dev nD → Vec F S512x8192 .bf16) (κ : GSem nD τ sig → ℕ) (ιs : Key → ℕ)
    (m0 : Memref sig .tc .vmem S4096x512 .bf16) (m1 : Memref sig .tc .vmem S512x8192 .bf16) (c : Dev nD) {α : Type} (ops : List Op) (p : Prog (TpuEff nD τ sig (Elt F) Λ₀ .tc) α) (Q : α → sProp 𝕄) : Prop :=
  Valid ops = true → St X Wt κ ιs m0 m1 c ops ⊢ wp frame (wpE (defs₀ (F := F)) 𝒱₀ (c : Thread nD τ) none) Set.univ p Q

section Steps

variable {X : Dev nD → Vec F S4096x512 .bf16} {Wt : Dev nD → Vec F S512x8192 .bf16} {κ : GSem nD τ sig → ℕ} {ιs : Key → ℕ}
variable {m0 : Memref sig .tc .vmem S4096x512 .bf16} {m1 : Memref sig .tc .vmem S512x8192 .bf16} {c : Dev nD}
variable {α β : Type} {Q : α → sProp (MT nD τ sig ℕ (Elt F) ℕ UU ℕ)} {ops : List Op}

theorem goal_enter {p : Prog (TpuEff nD τ sig (Elt F) Λ₀ .tc) β} {k : β → Prog (TpuEff nD τ sig (Elt F) Λ₀ .tc) α}
    (h : Goal X Wt κ ιs m0 m1 c ops p fun v => wp frame (wpE (defs₀ (F := F)) 𝒱₀ (c : Thread nD τ) none) Set.univ (k v) Q) :
    Goal X Wt κ ιs m0 m1 c ops (p >>= k) Q := fun hv => by
  rw [wp_bind]; exact h hv

theorem goal_pure {v : β} {k : β → Prog (TpuEff nD τ sig (Elt F) Λ₀ .tc) α} (h : Goal X Wt κ ιs m0 m1 c ops (k v) Q) :
    Goal X Wt κ ιs m0 m1 c ops (pure v) fun v => wp frame (wpE (defs₀ (F := F)) 𝒱₀ (c : Thread nD τ) none) Set.univ (k v) Q := fun hv => by
  show _ ⊢ wp frame (wpE (defs₀ (F := F)) 𝒱₀ (c : Thread nD τ) none) Set.univ (.ret v) _
  rw [wp_ret]
  iintro H
  imodintro
  iapply (h hv)
  iexact H

/-- A step that changes neither slots, credits nor dues takes nothing and leaves all. -/
theorem St_quiet (op : Op) (hk : ∀ d k, op.at' d k = false) (hy : ∀ d, ys (op :: ops) d = ys ops d) (hz : ∀ d, zs (op :: ops) d = zs ops d)
    (hdr : ∀ d, drd (op :: ops) d = drd ops d) (hdue : due c op = 0) (htok : Tok (F := F) c op = iprop(emp)) :
    St X Wt κ ιs m0 m1 c (op :: ops) ⊢ St X Wt κ ιs m0 m1 c ops := by
  have h1 : KSall X Wt c (op :: ops) = KSall X Wt c ops := by
    unfold KSall
    exact BI.bigSep_congr fun p _ => by rw [ks, hk]; rfl
  have h2 : RSall (F := F) c (op :: ops) = RSall c ops := by
    unfold RSall
    exact BI.bigSep_congr fun p _ => by rw [hy, hz, hdr]
  unfold St
  rw [h1, h2, Toks_cons, htok, dues, hdue, add_zero]
  iintro ⟨H1, H2, H3, H4, H5, H6, -, H7⟩
  isplitl [H1]; · iexact H1
  isplitl [H2]; · iexact H2
  isplitl [H3]; · iexact H3
  isplitl [H4]; · iexact H4
  isplitl [H5]; · iexact H5
  isplitl [H6]; · iexact H6
  iexact H7

theorem step_ldx {d : Bool} {t : ℕ} {off : Fin 2 → ℕ} {inb : ∀ a, off a + S256x512.size a ≤ S4096x512.size a}
    {hl : m0.view.LoadsAt (Rect.unit (s := S4096x512) off S256x512.size inb).toLoadRect}
    {k : Vec F S256x512 .bf16 → Prog (TpuEff nD τ sig (Elt F) Λ₀ .tc) α}
    (ho : off = ![xrow d (ch d t c), 0]) (h : Goal X Wt κ ιs m0 m1 c ops (k (xt X c d t)) Q) :
    Goal X Wt κ ιs m0 m1 c (.ldx d t :: ops) (Prog.lift (.load m0 (Rect.unit (s := S4096x512) off S256x512.size inb).toLoadRect hl) >>= k) Q := by
  subst ho
  intro hv
  refine (St_quiet (.ldx d t) (fun _ _ => rfl) (fun _ => rfl) (fun _ => rfl) (fun _ => rfl) rfl rfl).trans ?_
  have h' := h (Valid_cons hv).2
  show _ ⊢ wp frame (wpE (defs₀ (F := F)) 𝒱₀ (c : Thread nD τ) none) Set.univ (.op (.load m0 (xRect d t c).toLoadRect hl) fun v => k v) Q
  unfold St at h' ⊢
  unfold owns at h' ⊢
  iintro ⟨H1, H2, H3, ⟨⟨%f, %hf, H4⟩, H4'⟩, H5⟩
  iapply (wp_load_rect 𝒱₀ (c : Thread nD τ) none Set.univ (m := m0) (r := xRect d t c) (S := m0.view.set) (f := f)
    (View.set_slice_subset (v := m0.view) (xRect d t c))) $$ H4
  iintro H4
  have e : (m0.access (xRect d t c)).read (Elt F) f = xt X c d t := by
    unfold xt
    rw [← hf]
    rfl
  rw [e]
  iapply h'
  isplitl [H1]; · iexact H1
  isplitl [H2]; · iexact H2
  isplitl [H3]; · iexact H3
  isplitl [H4 H4']
  · isplitl [H4]
    · iexists f
      isplitr; · ipureintro; exact hf
      iexact H4
    iexact H4'
  iexact H5

theorem whole_emb (inb : ∀ a, (![0, 0] : Fin 2 → ℕ) a + S512x8192.size a ≤ S512x8192.size a) (i : S512x8192.Idx) :
    (Rect.unit (s := S512x8192) ![0, 0] S512x8192.size inb).emb i = i := by
  funext a
  apply Fin.ext
  fin_cases a
  · show 0 + 1 * (i 0).val = (i 0).val
    omega
  · show 0 + 1 * (i 1).val = (i 1).val
    omega

theorem step_ldw {inb : ∀ a, (![0, 0] : Fin 2 → ℕ) a + S512x8192.size a ≤ S512x8192.size a}
    {hl : m1.view.LoadsAt (Rect.unit (s := S512x8192) ![0, 0] S512x8192.size inb).toLoadRect}
    {k : Vec F S512x8192 .bf16 → Prog (TpuEff nD τ sig (Elt F) Λ₀ .tc) α}
    (h : Goal X Wt κ ιs m0 m1 c ops (k (Wt c)) Q) :
    Goal X Wt κ ιs m0 m1 c (.ldw :: ops) (Prog.lift (.load m1 (Rect.unit (s := S512x8192) ![0, 0] S512x8192.size inb).toLoadRect hl) >>= k) Q := by
  intro hv
  refine (St_quiet .ldw (fun _ _ => rfl) (fun _ => rfl) (fun _ => rfl) (fun _ => rfl) rfl rfl).trans ?_
  have h' := h (Valid_cons hv).2
  show _ ⊢ wp frame (wpE (defs₀ (F := F)) 𝒱₀ (c : Thread nD τ) none) Set.univ
    (.op (.load m1 (Rect.unit (s := S512x8192) ![0, 0] S512x8192.size inb).toLoadRect hl) fun v => k v) Q
  unfold St at h' ⊢
  unfold owns at h' ⊢
  iintro ⟨H1, H2, H3, ⟨H4', ⟨%f, %hf, H4⟩⟩, H5⟩
  iapply (wp_load_rect 𝒱₀ (c : Thread nD τ) none Set.univ (m := m1) (r := Rect.unit (s := S512x8192) ![0, 0] S512x8192.size inb) (S := m1.view.set) (f := f)
    (View.set_slice_subset (v := m1.view) (Rect.unit (s := S512x8192) ![0, 0] S512x8192.size inb))) $$ H4
  iintro H4
  have e : (m1.access (Rect.unit (s := S512x8192) ![0, 0] S512x8192.size inb)).read (Elt F) f = Wt c := by
    rw [← hf]
    funext i
    show m1.view.read (Elt F) f ((Rect.unit (s := S512x8192) ![0, 0] S512x8192.size inb).emb i) = _
    rw [whole_emb]
  rw [e]
  iapply h'
  isplitl [H1]; · iexact H1
  isplitl [H2]; · iexact H2
  isplitl [H3]; · iexact H3
  isplitl [H4 H4']
  · isplitl [H4']; · iexact H4'
    iexists f
    isplitr; · ipureintro; exact hf
    iexact H4
  iexact H5

/-- A load of a slot held at any share. -/
theorem wp_slot_load {m : Memref sig .tc .vmem S2x2x128x8192 .bf16} {kk : Fin 4} {q : PosShare TreeShare} {v : FVec F S128x8192 .bf16}
    {hl : m.view.LoadsAt (slotRect kk).toLoadRect} {k : Vec F S1x1x128x8192 .bf16 → Prog (TpuEff nD τ sig (Elt F) Λ₀ .tc) α} :
    owns (c : Thread nD τ) (slotM m kk) q v
      ⊢ iprop((owns (c : Thread nD τ) (slotM m kk) q v -∗ wp frame (wpE (defs₀ (F := F)) 𝒱₀ (c : Thread nD τ) none) Set.univ (k (wrap v)) Q)
        -∗ wp frame (wpE (defs₀ (F := F)) 𝒱₀ (c : Thread nD τ) none) Set.univ (Prog.lift (.load m (slotRect kk).toLoadRect hl) >>= k) Q) := by
  show _ ⊢ iprop(_ -∗ wp frame (wpE (defs₀ (F := F)) 𝒱₀ (c : Thread nD τ) none) Set.univ (.op (.load m (slotRect kk).toLoadRect hl) fun v => k v) Q)
  unfold owns
  iintro ⟨%f, %hf, H⟩ Hk
  iapply (wp_load_rect 𝒱₀ (c : Thread nD τ) none Set.univ (m := m) (r := slotRect kk) (S := (slotM m kk).view.set) (f := f)
    (slot_set m kk).subset) $$ H
  iintro H
  rw [slot_read, hf]
  iapply Hk
  iexists f
  isplitr; · ipureintro; exact hf
  iexact H

/-- A store to a slot held whole. -/
theorem wp_slot_store {m : Memref sig .tc .vmem S2x2x128x8192 .bf16} {kk : Fin 4} {v : FVec F S128x8192 .bf16} {w : FVec F S1x1x128x8192 .bf16}
    {hx : (m.access (slotRect kk)).Stores Finset.univ} {hm : (Finset.univ : Finset (slotRect kk).shape.Idx) = Finset.univ ∨ ∀ a, (slotRect kk).stride a = 1}
    {k : PUnit → Prog (TpuEff nD τ sig (Elt F) Λ₀ .tc) α} :
    owns (c : Thread nD τ) (slotM m kk) fullShare v
      ⊢ iprop((owns (c : Thread nD τ) (slotM m kk) fullShare (unwrap w) -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store m (slotRect kk) w Finset.univ hx hm) >>= k) Q) := by
  show _ ⊢ iprop(_ -∗ wp frame (wpE (defs₀ (F := F)) 𝒱₀ (c : Thread nD τ) none) Set.univ (.op (.store m (slotRect kk) w Finset.univ hx hm) fun v => k v) Q)
  unfold owns
  iintro ⟨%f, %hf, H⟩ Hk
  iapply (wp_store 𝒱₀ (c : Thread nD τ) none Set.univ (m := m) (r := slotRect kk) (S := (slotM m kk).view.set) (f := f) (w := w) (Mk := Finset.univ)
    (slot_set m kk).subset) $$ H
  iintro H
  iapply Hk
  iexists _
  isplitr
  · ipureintro
    exact slot_written m kk f w
  iexact H

theorem step_ldr {d : Bool} {n : ℕ} {m : Memref sig .tc .vmem S2x2x128x8192 .bf16} {off : Fin 4 → ℕ}
    {inb : ∀ a, off a + S1x1x128x8192.size a ≤ S2x2x128x8192.size a}
    {hl : m.view.LoadsAt (Rect.unit (s := S2x2x128x8192) off S1x1x128x8192.size inb).toLoadRect}
    {k : Vec F S1x1x128x8192 .bf16 → Prog (TpuEff nD τ sig (Elt F) Λ₀ .tc) α}
    (hm : m = rbuf d) (ho : off = ![(key n).val / 2, (key n).val % 2, 0, 0])
    (h : Goal X Wt κ ιs m0 m1 c ops (k (wrap (item X Wt (snd d c) d n))) Q) :
    Goal X Wt κ ιs m0 m1 c (.ldr d n :: ops)
      (Prog.lift (.load m (Rect.unit (s := S2x2x128x8192) off S1x1x128x8192.size inb).toLoadRect hl) >>= k) Q := by
  subst hm; subst ho
  intro hv
  refine (St_quiet (.ldr d n) (fun _ _ => rfl) (fun _ => rfl) (fun _ => rfl) (fun _ => rfl) rfl rfl).trans ?_
  obtain ⟨hok, hv⟩ := Valid_cons hv
  simp only [Op.ok, Bool.and_eq_true, Nat.beq_eq] at hok
  have h' := h hv
  unfold St at h' ⊢
  iintro ⟨H1, H2, H3, H4, H5, H6⟩
  ihave H5 := (KS_look X Wt c ops d n) $$ H5
  icases H5 with ⟨H5, Hb⟩
  ihave H5 := (KS_ldr X Wt c d n _ hok.1 hok.2) $$ H5
  icases H5 with ⟨H5, Hb'⟩
  iapply (wp_slot_load (m := rbuf d) (kk := key n)) $$ H5
  iintro H5
  iapply h'
  isplitl [H1]; · iexact H1
  isplitl [H2]; · iexact H2
  isplitl [H3]; · iexact H3
  isplitl [H4]; · iexact H4
  isplitl [H5 Hb Hb']
  · iapply Hb
    iapply Hb'
    iexact H5
  iexact H6

/-- What a slot sent from held before a store is loaded and not used. -/
theorem step_ldd {d : Bool} {n : ℕ} {m : Memref sig .tc .vmem S2x2x128x8192 .bf16} {off : Fin 4 → ℕ}
    {inb : ∀ a, off a + S1x1x128x8192.size a ≤ S2x2x128x8192.size a}
    {hl : m.view.LoadsAt (Rect.unit (s := S2x2x128x8192) off S1x1x128x8192.size inb).toLoadRect}
    {k : Vec F S1x1x128x8192 .bf16 → Prog (TpuEff nD τ sig (Elt F) Λ₀ .tc) α}
    (hm : m = sbuf d) (ho : off = ![(key n).val / 2, (key n).val % 2, 0, 0])
    (h : ∀ v, Goal X Wt κ ιs m0 m1 c ops (k v) Q) :
    Goal X Wt κ ιs m0 m1 c (.ldd d n :: ops)
      (Prog.lift (.load m (Rect.unit (s := S2x2x128x8192) off S1x1x128x8192.size inb).toLoadRect hl) >>= k) Q := by
  subst hm; subst ho
  intro hv
  refine (St_quiet (.ldd d n) (fun _ _ => rfl) (fun _ => rfl) (fun _ => rfl) (fun _ => rfl) rfl rfl).trans ?_
  obtain ⟨hok, hv⟩ := Valid_cons hv
  simp only [Op.ok, Bool.and_eq_true, Nat.beq_eq] at hok
  have h' := fun v => h v hv
  unfold St at h' ⊢
  iintro ⟨H1, H2, H3, H4, H5, H6⟩
  ihave H5 := (KS_look X Wt c ops d n) $$ H5
  icases H5 with ⟨H5, Hb⟩
  ihave H5 := (KS_ldd X Wt c d n _ hok.1.1 hok.1.2) $$ H5
  icases H5 with ⟨%q, %Z, H5, Hb'⟩
  iapply (wp_slot_load (m := sbuf d) (kk := key n)) $$ H5
  iintro H5
  iapply (h' _)
  isplitl [H1]; · iexact H1
  isplitl [H2]; · iexact H2
  isplitl [H3]; · iexact H3
  isplitl [H4]; · iexact H4
  isplitl [H5 Hb Hb']
  · iapply Hb
    iapply Hb'
    iexact H5
  iexact H6

/-- The steps that touch one slot and nothing else of the device's. -/
theorem RS_quiet (op : Op) (hy : ∀ d, ys (op :: ops) d = ys ops d) (hz : ∀ d, zs (op :: ops) d = zs ops d) (hdr : ∀ d, drd (op :: ops) d = drd ops d) :
    RSall (F := F) c (op :: ops) = RSall c ops := by
  unfold RSall
  exact BI.bigSep_congr fun p _ => by rw [hy, hz, hdr]

theorem step_st {d : Bool} {n : ℕ} {m : Memref sig .tc .vmem S2x2x128x8192 .bf16} {off : Fin 4 → ℕ}
    {inb : ∀ a, off a + S1x1x128x8192.size a ≤ S2x2x128x8192.size a} {w : FVec F S1x1x128x8192 .bf16}
    {hx : (m.access (Rect.unit (s := S2x2x128x8192) off S1x1x128x8192.size inb)).Stores Finset.univ}
    {hmm : (Finset.univ : Finset (Rect.unit (s := S2x2x128x8192) off S1x1x128x8192.size inb).shape.Idx) = Finset.univ
      ∨ ∀ a, (Rect.unit (s := S2x2x128x8192) off S1x1x128x8192.size inb).stride a = 1}
    {k : PUnit → Prog (TpuEff nD τ sig (Elt F) Λ₀ .tc) α}
    (hm : m = sbuf d) (ho : off = ![(key n).val / 2, (key n).val % 2, 0, 0]) (hw : w = wrap (item X Wt c d n))
    (h : Goal X Wt κ ιs m0 m1 c ops (k ⟨⟩) Q) :
    Goal X Wt κ ιs m0 m1 c (.st d n :: ops)
      (Prog.lift (.store m (Rect.unit (s := S2x2x128x8192) off S1x1x128x8192.size inb) w Finset.univ hx hmm) >>= k) Q := by
  subst hm; subst ho; subst hw
  intro hv
  obtain ⟨hok, hv⟩ := Valid_cons hv
  simp only [Op.ok, Bool.and_eq_true, Nat.beq_eq] at hok
  have h' := h hv
  unfold St at h' ⊢
  rw [RS_quiet (.st d n) (fun _ => rfl) (fun _ => rfl) (fun _ => rfl), Toks_cons, dues, show due c (.st d n) = 0 from rfl, add_zero]
  iintro ⟨H1, H2, H3, H4, H5, H6, -, H7⟩
  ihave H5 := (KS_item X Wt c (.st d n) ops d n (at_eq d n)) $$ H5
  icases H5 with ⟨H5, Hb⟩
  ihave H5 := (KS_st X Wt c d n _ hok.1.1 hok.1.2 hok.2) $$ H5
  icases H5 with ⟨%Z, H5, Hb'⟩
  iapply (wp_slot_store (m := sbuf d) (kk := key n)) $$ H5
  rw [unwrap_wrap]
  iintro H5
  iapply h'
  isplitl [H1]; · iexact H1
  isplitl [H2]; · iexact H2
  isplitl [H3]; · iexact H3
  isplitl [H4]; · iexact H4
  isplitl [H5 Hb Hb']
  · iapply Hb
    iapply Hb'
    iexact H5
  isplitl [H6]; · iexact H6
  iexact H7

theorem got_rcv (c : Dev nD) (d : Bool) (n : ℕ) (h : n < 28) :
    bigSep ((sched (F := F) X Wt).duties (rcell c d (key n)) (n / 4) \ ∅) (fun u => (sched X Wt).payload (rcell c d (key n)) (n / 4) u)
      ⊢ owns (c : Thread nD τ) (slotM (rbuf d) (key n)) fullShare (item X Wt (snd d c) d n) := by
  rw [rest_rcv X Wt c d (key n) _ (by omega)]
  unfold rcvPay
  rw [show 4 * (n / 4) + (key n).val = n from n_eq n]

theorem got_snt (c : Dev nD) (d : Bool) (n : ℕ) (h : n < 28) :
    bigSep ((sched (F := F) X Wt).duties (scell c d (key n)) (n / 4) \ ∅) (fun u => (sched X Wt).payload (scell c d (key n)) (n / 4) u)
      ⊢ owns (c : Thread nD τ) (slotM (sbuf d) (key n)) fullShare.left (item X Wt c d n) := by
  rw [rest_snt X Wt c d (key n) _ (by omega)]
  unfold sntPay
  rw [show 4 * (n / 4) + (key n).val = n from n_eq n]

theorem got_cpy (c : Dev nD) (d : Bool) (n : ℕ) (h : 14 ≤ n) (h' : n < 30) :
    bigSep ((sched (F := F) X Wt).duties (ocell c d (key n)) (ort n) \ ∅) (fun u => (sched X Wt).payload (ocell c d (key n)) (ort n) u)
      ⊢ iprop(owns (c : Thread nD τ) (slotM (sbuf d) (key n)) fullShare.right (item X Wt c d n)
        ∗ owns (c : Thread nD τ) (outM c d n) fullShare (item X Wt c d n)) := by
  rw [rest_cpy X Wt c d (key n) _ (by unfold ort; omega)]
  unfold cpyPay
  rw [oit_eq n h h']

theorem step_recv {d : Bool} {n : ℕ} {sem : DmaSem sig} {sp sp' : Space} {src : Memref sig .tc sp S128x8192 .bf16} {dst' : Memref sig .tc sp' S128x8192 .bf16}
    {h1 : src.view.WordExact} {h2 : dst'.view.WordExact} {k : PUnit → Prog (TpuEff nD τ sig (Elt F) Λ₀ .tc) α}
    (hs : sem = rsem d (key n)) (h : Goal X Wt κ ιs m0 m1 c ops (k ⟨⟩) Q) :
    Goal X Wt κ ιs m0 m1 c (.recv d n :: ops) (Prog.lift (.waitDma2 sem src dst' h1 h2) >>= k) Q := by
  subst hs
  intro hv
  obtain ⟨hok, hv⟩ := Valid_cons hv
  simp only [Op.ok, Bool.and_eq_true, Nat.beq_eq, Nat.blt_eq] at hok
  obtain ⟨⟨⟨hr, hg⟩, hn⟩, hab⟩ := hok
  have h' := h hv
  show _ ⊢ wp frame (wpE (defs₀ (F := F)) 𝒱₀ (c : Thread nD τ) none) Set.univ (.op (.waitDma2 (rsem d (key n)) src dst' h1 h2) fun v => k v) Q
  unfold St at h' ⊢
  rw [RS_quiet (.recv d n) (fun _ => rfl) (fun _ => rfl) (fun _ => rfl), Toks_cons, dues, show due c (.recv d n) = 0 from rfl, add_zero]
  iintro ⟨#H1, H2, ⟨%W, H3⟩, H4, H5, H6, Hc, H7⟩
  ihave H5 := (KS_item X Wt c (.recv d n) ops d n (at_eq d n)) $$ H5
  icases H5 with ⟨H5, Hb⟩
  ihave H5 := (KS_recv X Wt c d n _ hr hg) $$ H5
  icases H5 with ⟨H5, Hb'⟩
  have hk : 0 + dst'.view.dmaCredit = (sched X Wt).expect (rcell c d (key n)) (n / 4) := by
    rw [credit_any, expect_rcv X Wt c d (key n) _ (by omega), Nat.zero_add]
  iapply (Rounds.wp_wait_rest_token 𝒱₀ ER (sched X Wt) (c : Thread nD τ) none (κ := κ (rcell c d (key n)))
    (wpE_waitDma2_eq 𝒱₀ (c : Thread nD τ) none Set.univ) (Set.mem_univ _) (rix n) (O := dues c ops) (W := W) (R := n / 4) (m := 0) (T := ∅) hk) $$ [Hc H3 H5]
  · isplitr; · iapply (Ctx_r X Wt κ ιs c d (key n)); iexact H1
    isplitl [Hc]
    · rw [credit_any]; unfold Tok; iexact Hc
    isplitl [H3]; · iexact H3
    isplitr
    · iapply (mayWait c (.dma (rsem d (key n))) (rix n) (by unfold rix; omega) ops hab)
      iapply (Ctx_lev X Wt κ ιs); iexact H1
    iexact H5
  iintro ⟨H3, H5, H5', Hp⟩
  ihave Hp := (got_rcv (X := X) (Wt := Wt) c d n (by omega)) $$ Hp
  iapply h'
  isplitr; · iexact H1
  isplitl [H2]; · iexact H2
  isplitl [H3]; · iexists _; iexact H3
  isplitl [H4]; · iexact H4
  isplitl [H5 H5' Hp Hb Hb']
  · iapply Hb
    iapply Hb'
    isplitl [H5]; · iexact H5
    isplitl [H5']; · iexact H5'
    iexact Hp
  isplitl [H6]; · iexact H6
  iexact H7

theorem step_sw {d : Bool} {n : ℕ} {sem : DmaSem sig} {sp sp' : Space} {src : Memref sig .tc sp S128x8192 .bf16} {dst' : Memref sig .tc sp' S128x8192 .bf16}
    {h1 : src.view.WordExact} {h2 : dst'.view.WordExact} {k : PUnit → Prog (TpuEff nD τ sig (Elt F) Λ₀ .tc) α}
    (hs : sem = ssem d (key n)) (h : Goal X Wt κ ιs m0 m1 c ops (k ⟨⟩) Q) :
    Goal X Wt κ ιs m0 m1 c (.sw d n :: ops) (Prog.lift (.waitDma2 sem src dst' h1 h2) >>= k) Q := by
  subst hs
  intro hv
  obtain ⟨hok, hv⟩ := Valid_cons hv
  simp only [Op.ok, Bool.and_eq_true, Nat.beq_eq, Nat.blt_eq] at hok
  obtain ⟨⟨⟨⟨ht, hss⟩, hw⟩, hn⟩, hab⟩ := hok
  have h' := h hv
  show _ ⊢ wp frame (wpE (defs₀ (F := F)) 𝒱₀ (c : Thread nD τ) none) Set.univ (.op (.waitDma2 (ssem d (key n)) src dst' h1 h2) fun v => k v) Q
  unfold St at h' ⊢
  rw [RS_quiet (.sw d n) (fun _ => rfl) (fun _ => rfl) (fun _ => rfl), Toks_cons, dues, show due c (.sw d n) = 0 from rfl, add_zero]
  iintro ⟨#H1, H2, ⟨%W, H3⟩, H4, H5, H6, -, H7⟩
  ihave H5 := (KS_item X Wt c (.sw d n) ops d n (at_eq d n)) $$ H5
  icases H5 with ⟨H5, Hb⟩
  ihave H5 := (KS_sw X Wt c d n _ ht hss hw) $$ H5
  icases H5 with ⟨⟨Hc, H5⟩, Hb'⟩
  have hk : 0 + dst'.view.dmaCredit = (sched X Wt).expect (scell c d (key n)) (n / 4) := by
    rw [credit_any, expect_snt X Wt c d (key n) _ (by omega), Nat.zero_add]
  iapply (Rounds.wp_wait_rest_token 𝒱₀ ER (sched X Wt) (c : Thread nD τ) none (κ := κ (scell c d (key n)))
    (wpE_waitDma2_eq 𝒱₀ (c : Thread nD τ) none Set.univ) (Set.mem_univ _) 0 (O := dues c ops) (W := W) (R := n / 4) (m := 0) (T := ∅) hk) $$ [Hc H3 H5]
  · isplitr; · iapply (Ctx_s X Wt κ ιs c d (key n)); iexact H1
    isplitl [Hc]
    · rw [credit_any]; iexact Hc
    isplitl [H3]; · iexact H3
    isplitr
    · iapply (mayWait c (.dma (ssem d (key n))) 0 (by omega) ops hab)
      iapply (Ctx_lev X Wt κ ιs); iexact H1
    iexact H5
  iintro ⟨H3, H5, H5', Hp⟩
  ihave Hp := (got_snt (X := X) (Wt := Wt) c d n (by omega)) $$ Hp
  iapply h'
  isplitr; · iexact H1
  isplitl [H2]; · iexact H2
  isplitl [H3]; · iexists _; iexact H3
  isplitl [H4]; · iexact H4
  isplitl [H5 H5' Hp Hb Hb']
  · iapply Hb
    iapply Hb'
    isplitl [H5]; · iexact H5
    isplitl [H5']; · iexact H5'
    iexact Hp
  isplitl [H6]; · iexact H6
  iexact H7

theorem step_ow {d : Bool} {n : ℕ} {sem : DmaSem sig} {sp sp' : Space} {src : Memref sig .tc sp S128x8192 .bf16} {dst' : Memref sig .tc sp' S128x8192 .bf16}
    {h1 : src.view.WordExact} {h2 : dst'.view.WordExact} {k : PUnit → Prog (TpuEff nD τ sig (Elt F) Λ₀ .tc) α}
    (hs : sem = osem d (key n)) (h : Goal X Wt κ ιs m0 m1 c ops (k ⟨⟩) Q) :
    Goal X Wt κ ιs m0 m1 c (.ow d n :: ops) (Prog.lift (.waitDma2 sem src dst' h1 h2) >>= k) Q := by
  subst hs
  intro hv
  obtain ⟨hok, hv⟩ := Valid_cons hv
  simp only [Op.ok, Bool.and_eq_true, Nat.beq_eq, Nat.blt_eq, Nat.ble_eq] at hok
  obtain ⟨⟨⟨⟨⟨ht, ho⟩, hvv⟩, hn1⟩, hn2⟩, hab⟩ := hok
  have h' := h hv
  have h4 : ort n < 4 := by unfold ort; omega
  show _ ⊢ wp frame (wpE (defs₀ (F := F)) 𝒱₀ (c : Thread nD τ) none) Set.univ (.op (.waitDma2 (osem d (key n)) src dst' h1 h2) fun v => k v) Q
  unfold St at h' ⊢
  rw [RS_quiet (.ow d n) (fun _ => rfl) (fun _ => rfl) (fun _ => rfl), Toks_cons, dues, show due c (.ow d n) = 0 from rfl, add_zero]
  iintro ⟨#H1, H2, ⟨%W, H3⟩, H4, H5, H6, -, H7⟩
  ihave H5 := (KS_item X Wt c (.ow d n) ops d n (at_eq d n)) $$ H5
  icases H5 with ⟨H5, Hb⟩
  ihave H5 := (KS_ow X Wt c d n _ hn1 hn2 ht ho hvv) $$ H5
  icases H5 with ⟨⟨Hc, H5⟩, Hb'⟩
  have hk : 0 + dst'.view.dmaCredit = (sched X Wt).expect (ocell c d (key n)) (ort n) := by
    rw [credit_any, expect_cpy X Wt c d (key n) _ h4, Nat.zero_add]
  iapply (Rounds.wp_wait_rest_token 𝒱₀ ER (sched X Wt) (c : Thread nD τ) none (κ := κ (ocell c d (key n)))
    (wpE_waitDma2_eq 𝒱₀ (c : Thread nD τ) none Set.univ) (Set.mem_univ _) 0 (O := dues c ops) (W := W) (R := ort n) (m := 0) (T := ∅) hk) $$ [Hc H3 H5]
  · isplitr; · iapply (Ctx_o X Wt κ ιs c d (key n)); iexact H1
    isplitl [Hc]
    · rw [credit_any]; iexact Hc
    isplitl [H3]; · iexact H3
    isplitr
    · iapply (mayWait c (.dma (osem d (key n))) 0 (by omega) ops hab)
      iapply (Ctx_lev X Wt κ ιs); iexact H1
    iexact H5
  iintro ⟨H3, H5, H5', Hp⟩
  ihave Hp := (got_cpy (X := X) (Wt := Wt) c d n hn1 hn2) $$ Hp
  icases Hp with ⟨Hp, Hp'⟩
  iapply h'
  isplitr; · iexact H1
  isplitl [H2]; · iexact H2
  isplitl [H3]; · iexists _; iexact H3
  isplitl [H4]; · iexact H4
  isplitl [H5 H5' Hp Hp' Hb Hb']
  · iapply Hb
    iapply Hb'
    isplitl [H5]; · iexact H5
    isplitl [H5']; · iexact H5'
    isplitl [Hp]; · iexact Hp
    iexact Hp'
  isplitl [H6]; · iexact H6
  iexact H7

theorem step_out {d : Bool} {n : ℕ} {sem : DmaSem sig} {src : Memref sig .tc .vmem S128x8192 .bf16} {mm : Memref sig .tc .hbm S4096x8192 .bf16}
    {off : Fin 2 → ℕ} {inb : ∀ a, off a + S128x8192.size a ≤ S4096x8192.size a} {hst}
    {h1 : src.view.WordExact} {h2 : (mm.slice (Rect.unit (s := S4096x8192) off S128x8192.size inb) hst).view.WordExact}
    {h3 : DmaTarget.Typed (nD := nD) .vmem (.dma sem) (.here (τ := τ) (p := .tc) (mm.slice (Rect.unit (s := S4096x8192) off S128x8192.size inb) hst))}
    {k : PUnit → Prog (TpuEff nD τ sig (Elt F) Λ₀ .tc) α}
    (hsrc : src = slotM (sbuf d) (key n)) (hmm : mm = Memref.whole main_v2) (ho : off = ![orow d (ch d (n / 2) c) n, 0])
    (hs : sem = osem d (key n)) (h : Goal X Wt κ ιs m0 m1 c ops (k ⟨⟩) Q) :
    Goal X Wt κ ιs m0 m1 c (.out d n :: ops)
      (Prog.lift (.enqueueDma src (.here (mm.slice (Rect.unit (s := S4096x8192) off S128x8192.size inb) hst)) (.dma sem) h1 h2 h3) >>= k) Q := by
  subst hsrc; subst hmm; subst ho; subst hs
  intro hv
  obtain ⟨hok, hv⟩ := Valid_cons hv
  simp only [Op.ok, Bool.and_eq_true, Nat.beq_eq, Nat.blt_eq, Nat.ble_eq] at hok
  obtain ⟨⟨⟨⟨ht, ho⟩, hvv⟩, hn1⟩, hn2⟩ := hok
  have h' := h hv
  have h4 : ort n < 4 := by unfold ort; omega
  show _ ⊢ wp frame (wpE (defs₀ (F := F)) 𝒱₀ (c : Thread nD τ) none) Set.univ
    (.op (.enqueueDma (slotM (sbuf d) (key n)) (.here (outM c d n)) (.dma (osem d (key n))) h1 h2 h3) fun v => k v) Q
  unfold St at h' ⊢
  rw [RS_quiet (.out d n) (fun _ => rfl) (fun _ => rfl) (fun _ => rfl), Toks_cons, dues, show due c (.out d n) = 0 from rfl, add_zero]
  iintro ⟨#H1, H2, H3, H4, H5, H6, Ht, H7⟩
  ihave H5 := (KS_item X Wt c (.out d n) ops d n (at_eq d n)) $$ H5
  icases H5 with ⟨H5, Hb⟩
  ihave H5 := (KS_out X Wt c d n _ ht ho hvv) $$ H5
  icases H5 with ⟨⟨H5, H5'⟩, Hb'⟩
  unfold Tok
  icases Ht with ⟨Ht, %Z, Hz⟩
  unfold owns
  icases H5 with ⟨%f, %hf, H5⟩
  icases Hz with ⟨%g, -, Hz⟩
  iapply (Rounds.wp_copy_pointsTo 𝒱₀ ER (sched X Wt) (c : Thread nD τ) none (src := slotM (sbuf d) (key n)) (dst := outM c d n)
    (sem := .dma (osem d (key n))) (q := fullShare.right) (fs := f) (fd := g) (r := ort n) (d := 0) (κ := κ (ocell c d (key n)))
    (by rw [duties_cpy X Wt c d (key n) _ h4]; exact Finset.mem_singleton_self _) 0 N (credit_any (outM c d n)) (amount_cpy X Wt c d (key n) _ _)
    (by
      rw [payload_cpy]
      unfold cpyPay
      rw [oit_eq n hn1 hn2, ← hf]
      iintro ⟨Ha, Hb⟩
      isplitl [Hb]
      · iapply (owns_intro (c : Thread nD τ) (slotM (sbuf d) (key n)) fullShare.right f)
        iexact Hb
      ihave Ha := (owns_intro (c : Thread nD τ) (outM c d n) fullShare _) $$ Ha
      rw [View.read_write_univ]
      iexact Ha)) $$ [H5 Hz Ht H5']
  · isplitr; · iapply (Ctx_o X Wt κ ιs c d (key n)); iexact H1
    isplitl [H5]; · iexact H5
    isplitl [Hz]; · iexact Hz
    isplitl [Ht]; · iexact Ht
    iexact H5'
  iintro Hc
  iapply h'
  isplitr; · iexact H1
  isplitl [H2]; · iexact H2
  isplitl [H3]; · iexact H3
  isplitl [H4]; · iexact H4
  isplitl [Hc Hb Hb']
  · iapply Hb
    iapply Hb'
    iexact Hc
  isplitl [H6]; · iexact H6
  iexact H7

/-! ### Credits -/

theorem step_cw {d : Bool} {n : ℕ} {sem : Sem sig} {k : PUnit → Prog (TpuEff nD τ sig (Elt F) Λ₀ .tc) α}
    (hs : sem = csem d) (h : Goal X Wt κ ιs m0 m1 c ops (k ⟨⟩) Q) :
    Goal X Wt κ ιs m0 m1 c (.cw d n :: ops) (semWaitWord sem 1#32 >>= k) Q := by
  subst hs
  intro hv
  obtain ⟨hok, hv⟩ := Valid_cons hv
  simp only [Op.ok, Bool.and_eq_true, Nat.beq_eq, Nat.blt_eq, Bool.not_eq_true'] at hok
  obtain ⟨⟨⟨hy, hab⟩, hn⟩, hdr⟩ := hok
  have h' := h hv
  have hl : wix n ≤ 64 := by
    unfold wix cix
    cases hh : Nat.blt n 4 <;> simp only [cond_true, cond_false]
    · split <;> omega
    · omega
  have e1 : ys (.cw d n :: ops) d = n := by
    show cond (d == d) (ys ops d - 1) (ys ops d) = n
    rw [beq_self_eq_true, cond_true, hy, Nat.add_sub_cancel]
  have e2 : ys (.cw d n :: ops) (!d) = ys ops (!d) := by
    show cond (d == !d) (ys ops (!d) - 1) (ys ops (!d)) = ys ops (!d)
    cases d <;> rfl
  show _ ⊢ wp frame (wpE (defs₀ (F := F)) 𝒱₀ (c : Thread nD τ) none) Set.univ (.op (.semWait (csem d) 1) fun v => k v) Q
  unfold St at h' ⊢
  rw [Toks_cons, dues, show due c (.cw d n) = 0 from rfl, add_zero]
  iintro ⟨#H1, H2, ⟨%W, H3⟩, H4, H5, H6, Hc, H7⟩
  ihave H6 := (RS_step c (.cw d n) ops d ⟨e2, rfl, rfl⟩) $$ H6
  icases H6 with ⟨H6, Hb⟩
  unfold RS
  rw [e1, show drd (.cw d n :: ops) d = drd ops d from rfl, show zs (.cw d n :: ops) d = zs ops d from rfl, hdr, hy]
  unfold CS
  icases H6 with ⟨⟨%T, %hT, Hat, Hp⟩, Hf⟩
  unfold Tok
  iapply (Rounds.wp_wait 𝒱₀ ER (sched X Wt) (c : Thread nD τ) none (κ := κ (ccell c d))
    (wpE_semWait_eq 𝒱₀ (c : Thread nD τ) none Set.univ) (Set.mem_univ _) (cr := Finsupp.single (wix n) 1) (O := dues c ops) (W := W)
    {((.reg (csem d) : SemLoc sig), wix n)} (R := 0) (m := n) (T := T) (by rw [Util.total_single]) (image_single_subset (.reg (csem d)) (wix n) 1)) $$ [Hc H3 Hat]
  · isplitr; · iapply (Ctx_c X Wt κ ιs c d); iexact H1
    isplitl [Hc]; · iexact Hc
    isplitl [H3]; · iexact H3
    isplitr
    · iapply (mayWait c (.reg (csem d)) (wix n) hl ops hab)
      iapply (Ctx_lev X Wt κ ιs); iexact H1
    iexact Hat
  iintro %S ⟨%hS, H3, Hat, Hp'⟩
  iapply h'
  isplitr; · iexact H1
  isplitl [H2]; · iexact H2
  isplitl [H3]; · iexists _; iexact H3
  isplitl [H4]; · iexact H4
  isplitl [H5]; · iexact H5
  isplitl [Hb Hat Hp Hp' Hf]
  · iapply Hb
    isplitl [Hat Hp Hp']
    · iexists S
      obtain ⟨hTS, hSd, hcard⟩ := hS
      rw [duties_cred] at hSd hcard
      rw [expect_cred] at hcard
      isplitr
      · ipureintro
        refine ⟨hSd, ?_⟩
        rw [Finset.card_sdiff_of_subset hSd, Finset.card_range] at hcard
        have := Finset.card_le_card hSd
        rw [Finset.card_range] at this
        have hc : n + 1 + (29 - S.card) ≤ 32 := hcard
        omega
      isplitl [Hat]; · iexact Hat
      rw [sep_sdiff _ hTS]
      isplitl [Hp]; · iexact Hp
      iapply (Entails.of_eq (BI.bigSep_congr fun u _ => payload_cred X Wt c d 0 u))
      iexact Hp'
    iexact Hf
  iexact H7

theorem step_drain {d : Bool} {sem : Sem sig} {k : PUnit → Prog (TpuEff nD τ sig (Elt F) Λ₀ .tc) α}
    (hs : sem = csem d) (h : Goal X Wt κ ιs m0 m1 c ops (k ⟨⟩) Q) :
    Goal X Wt κ ιs m0 m1 c (.drain d :: ops) (semWaitWord sem 4#32 >>= k) Q := by
  subst hs
  intro hv
  obtain ⟨hok, hv⟩ := Valid_cons hv
  simp only [Op.ok, Bool.and_eq_true, Nat.beq_eq] at hok
  obtain ⟨⟨hy, hdr⟩, hab⟩ := hok
  have h' := h hv
  have e1 : drd (.drain d :: ops) d = false := by
    show cond (d == d) false (drd ops d) = false
    rw [beq_self_eq_true, cond_true]
  have e2 : drd (.drain d :: ops) (!d) = drd ops (!d) := by
    show cond (d == !d) false (drd ops (!d)) = drd ops (!d)
    cases d <;> rfl
  show _ ⊢ wp frame (wpE (defs₀ (F := F)) 𝒱₀ (c : Thread nD τ) none) Set.univ (.op (.semWait (csem d) 4) fun v => k v) Q
  unfold St at h' ⊢
  rw [Toks_cons, dues, show due c (.drain d) = 0 from rfl, add_zero]
  iintro ⟨#H1, H2, ⟨%W, H3⟩, H4, H5, H6, Hc, H7⟩
  ihave H6 := (RS_step c (.drain d) ops d ⟨rfl, rfl, e2⟩) $$ H6
  icases H6 with ⟨H6, Hb⟩
  unfold RS
  rw [e1, show ys (.drain d :: ops) d = ys ops d from rfl, show zs (.drain d :: ops) d = zs ops d from rfl, hdr, hy]
  unfold CS
  icases H6 with ⟨⟨%T, -, Hat, -⟩, Hf⟩
  unfold Tok
  iapply (Rounds.wp_wait_rest_token 𝒱₀ ER (sched X Wt) (c : Thread nD τ) none (κ := κ (ccell c d))
    (wpE_semWait_eq 𝒱₀ (c : Thread nD τ) none Set.univ) (Set.mem_univ _) 61 (O := dues c ops) (W := W) (R := 0) (m := 28) (T := T)
    (by rw [expect_cred])) $$ [Hc H3 Hat]
  · isplitr; · iapply (Ctx_c X Wt κ ιs c d); iexact H1
    isplitl [Hc]; · iexact Hc
    isplitl [H3]; · iexact H3
    isplitr
    · iapply (mayWait c (.reg (csem d)) 61 (by omega) ops hab)
      iapply (Ctx_lev X Wt κ ιs); iexact H1
    iexact Hat
  iintro ⟨H3, Hat, -, -⟩
  iapply h'
  isplitr; · iexact H1
  isplitl [H2]; · iexact H2
  isplitl [H3]; · iexists _; iexact H3
  isplitl [H4]; · iexact H4
  isplitl [H5]; · iexact H5
  isplitl [Hb Hat Hf]
  · iapply Hb
    isplitl [Hat]; · iexact Hat
    iexact Hf
  iexact H7

/-- Releasing a slot whose item has been taken makes the fact a later credit tells. -/
theorem release_fact (c : Dev nD) (d : Bool) (n : ℕ) (hn : n < 28) (x : KC) (hr : x.r = n / 4 + 1) (hg : x.g = n / 4 + 1) :
    iprop(Ctx X Wt κ ιs ∗ KS X Wt c d (key n) ((Op.give d n).back x)) ⊢ (|={Set.univ}=> iprop(KS X Wt c d (key n) x ∗ fact (F := F) c d n) : sProp 𝕄) := by
  by_cases h : n < 24
  · unfold fact
    rw [if_pos h]
    iintro ⟨#H1, H⟩
    ihave H := (KS_give X Wt c d n x h hr hg) $$ H
    icases H with ⟨⟨Hs, Hr, Hrr⟩, Hb⟩
    imod (Release.slot_release EV (S := landSlot (F := F) c d (key n)) (ι := ιs (c, d, key n)) (k := ((c, d, key n) : Key)) (Set.mem_univ _)
      (Release.slot_slot_false (slot_nonempty (rbuf d) (key n))) (n / 4 + 1)) $$ [Hs Hr] with ⟨Hr, Hf⟩
    · isplitr; · iapply (Ctx_slot X Wt κ ιs c d (key n)); iexact H1
      isplitl [Hr]; · iexact Hr
      iexact Hs
    imodintro
    isplitl [Hb Hr]
    · iapply Hb
      iexact Hr
    isplitl [Hf]; · iexact Hf
    iexact Hrr
  · unfold fact
    rw [if_neg h]
    iintro ⟨-, H⟩
    imodintro
    isplitl [H]
    · iapply (KS_keep X Wt c d n x (by omega) hn hr hg)
      iexact H
    iempintro

theorem step_give {d : Bool} {n : ℕ} {dev : Dev nD} {sem : Sem sig} {k : PUnit → Prog (TpuEff nD τ sig (Elt F) Λ₀ .tc) α}
    (hd : dev = snd d c) (hs : sem = csem d) (h : Goal X Wt κ ιs m0 m1 c ops (k ⟨⟩) Q) :
    Goal X Wt κ ιs m0 m1 c (.give d n :: ops) (semSignalWord dev sem 1#32 >>= k) Q := by
  subst hd; subst hs
  intro hv
  obtain ⟨hok, hv⟩ := Valid_cons hv
  simp only [Op.ok, Bool.and_eq_true, Nat.beq_eq, Nat.blt_eq] at hok
  obtain ⟨⟨⟨hr, hg⟩, hn⟩, hz⟩ := hok
  have h' := h hv
  have e1 : zs (.give d n :: ops) d = n := by
    show cond (d == d) (zs ops d - 1) (zs ops d) = n
    rw [beq_self_eq_true, cond_true, hz, Nat.add_sub_cancel]
  have e2 : zs (.give d n :: ops) (!d) = zs ops (!d) := by
    show cond (d == !d) (zs ops (!d) - 1) (zs ops (!d)) = zs ops (!d)
    cases d <;> rfl
  show _ ⊢ wp frame (wpE (defs₀ (F := F)) 𝒱₀ (c : Thread nD τ) none) Set.univ (.op (.semSignal (snd d c : Thread nD τ) (csem d) 1) fun v => k v) Q
  unfold St at h' ⊢
  rw [Toks_cons, dues]
  iintro ⟨#H1, #H2, ⟨%W, H3⟩, H4, H5, H6, Ht, H7⟩
  ihave H6 := (RS_step c (.give d n) ops d ⟨rfl, e2, rfl⟩) $$ H6
  icases H6 with ⟨H6, Hb⟩
  unfold RS
  rw [e1, show drd (.give d n :: ops) d = drd ops d from rfl, show ys (.give d n :: ops) d = ys ops d from rfl, hz]
  icases H6 with ⟨Hc, #Hf⟩
  ihave H5 := (KS_item X Wt c (.give d n) ops d n (at_eq d n)) $$ H5
  icases H5 with ⟨H5, Hk⟩
  imod (release_fact (X := X) (Wt := Wt) (κ := κ) (ιs := ιs) c d n hn _ hr hg) $$ [H5] with ⟨H5, #Hf'⟩
  · isplitr; · iexact H1
    iexact H5
  have hd0 : n + 1 ∈ (sched (F := F) X Wt).duties (ccell (snd d c) d) 0 := by
    rw [duties_cred]; exact Finset.mem_range.mpr (by omega)
  unfold Tok
  iapply (Rounds.wp_signal 𝒱₀ ER (sched X Wt) (c : Thread nD τ) none (dst := (snd d c : Thread nD τ)) (sem := csem d) (r := 0) (d := n + 1)
    (κ := κ (ccell (snd d c) d)) hd0 (by rw [amount_cred]; rfl) (cix n) (dues c ops) rfl) $$ [H3 Ht]
  · isplitr; · iapply (Ctx_c X Wt κ ιs (snd d c) d); iexact H1
    isplitl [H3]; · iexact H3
    isplitl [Ht]; · iexact Ht
    isplitr
    · rw [payload_cred, dst_snd]
      unfold duePay credPay
      rw [if_neg (Nat.succ_ne_zero n), Nat.add_sub_cancel, Finset.range_add_one, sep_insert _ _ Finset.notMem_range_self]
      isplitr; · iexact Hf'
      iexact Hf
    iapply (Told_cred c d); iexact H2
  iintro H3
  iapply h'
  isplitr; · iexact H1
  isplitr; · iexact H2
  isplitl [H3]; · iexists _; iexact H3
  isplitl [H4]; · iexact H4
  isplitl [H5 Hk]
  · iapply Hk
    iexact H5
  isplitl [Hb Hc]
  · iapply Hb
    isplitl [Hc]; · iexact Hc
    rw [Finset.range_add_one, sep_insert _ _ Finset.notMem_range_self]
    isplitr; · iexact Hf'
    iexact Hf
  iexact H7

theorem due_free (x : Dev nD) (d : Bool) (u n : ℕ) (hle : n - 3 ≤ u) (h4 : 4 ≤ n) (hn : n < 28) :
    duePay (F := F) x d u ⊢ iprop(reached ER (rcell x d (key n)) (n / 4) ∗ Release.released EV ((x, d, key n) : Key) (n / 4 + 1)) := by
  have e : fact (F := F) x d (n - 4) = iprop(Release.released EV ((x, d, key n) : Key) (n / 4 + 1) ∗ reached ER (rcell x d (key n)) (n / 4)) := by
    unfold fact
    rw [if_pos (by omega), show key (n - 4) = key n from Fin.ext (by show (n - 4) % 4 = n % 4; omega),
      show (n - 4) / 4 + 2 = n / 4 + 1 by omega, show (n - 4) / 4 + 1 = n / 4 by omega]
  unfold duePay credPay
  rw [if_neg (by omega)]
  iintro H
  ihave H := (pick _ (n - 4) (Finset.mem_range.mpr (by omega))) $$ H
  ihave H := (Entails.of_eq e) $$ H
  icases H with ⟨Ha, Hb⟩
  isplitl [Hb]; · iexact Hb
  iexact Ha

/-- What has been told by the time item `n` is sent says that the slot it goes to is free. -/
theorem slot_free (c : Dev nD) (d : Bool) (n : ℕ) (hn : n < 28) :
    iprop(Told (F := F) c ∗ CS (F := F) c d (n + 1) false)
      ⊢ iprop((reached ER (rcell (dst d c) d (key n)) (n / 4) ∗ Release.released EV ((dst d c, d, key n) : Key) (n / 4 + 1)) ∗ CS (F := F) c d (n + 1) false) := by
  by_cases h4 : n < 4
  · iintro ⟨H, H'⟩
    isplitl [H]
    · rw [show n / 4 = 0 by omega]
      iapply (Told_slot c d (key n)); iexact H
    iexact H'
  · unfold CS
    iintro ⟨-, %T, %hT, Hat, #Hp⟩
    have hex : ∃ u ∈ T, n - 3 ≤ u := by
      by_contra hne
      push Not at hne
      have hsub : T ⊆ Finset.range (n - 3) := fun u hu => Finset.mem_range.mpr (hne u hu)
      have := Finset.card_le_card hsub
      rw [Finset.card_range] at this
      have := hT.2
      omega
    obtain ⟨u, hu, hle⟩ := hex
    isplitr
    · ihave H := (pick _ u hu) $$ Hp
      iapply (due_free (dst d c) d u n hle (by omega) hn)
      iexact H
    iexists T
    isplitr; · ipureintro; exact hT
    isplitl [Hat]; · iexact Hat
    iexact Hp

theorem step_send {d : Bool} {n : ℕ} {dev : Dev nD} {s1 s2 : DmaSem sig} {src dst' : Memref sig .tc .vmem S128x8192 .bf16} {hsc}
    {h1 : src.view.WordExact} {h2 : dst'.view.WordExact} {h3 : DmaTarget.Typed .vmem (.dma s2) (.remote (Dev.tc dev : Thread nD τ) dst' (.dma s1) hsc)}
    {k : PUnit → Prog (TpuEff nD τ sig (Elt F) Λ₀ .tc) α}
    (hsrc : src = slotM (sbuf d) (key n)) (hdst : dst' = slotM (rbuf d) (key n)) (hd : dev = dst d c)
    (hs1 : s1 = ssem d (key n)) (hs2 : s2 = rsem d (key n)) (h : Goal X Wt κ ιs m0 m1 c ops (k ⟨⟩) Q) :
    Goal X Wt κ ιs m0 m1 c (.send d n :: ops)
      (Prog.lift (.enqueueDma src (.remote (Dev.tc dev : Thread nD τ) dst' (.dma s1) hsc) (.dma s2) h1 h2 h3) >>= k) Q := by
  subst hsrc; subst hdst; subst hd; subst hs1; subst hs2
  intro hv
  obtain ⟨hok, hv⟩ := Valid_cons hv
  simp only [Op.ok, Bool.and_eq_true, Nat.beq_eq, Nat.blt_eq, Bool.not_eq_true'] at hok
  obtain ⟨⟨⟨⟨⟨ht, hss⟩, hw⟩, hn⟩, hy⟩, hdr⟩ := hok
  have h' := h hv
  show _ ⊢ wp frame (wpE (defs₀ (F := F)) 𝒱₀ (c : Thread nD τ) none) Set.univ
    (.op (.enqueueDma (slotM (sbuf d) (key n)) (.remote (Dev.tc (dst d c) : Thread nD τ) (slotM (rbuf d) (key n)) (.dma (ssem d (key n))) hsc)
      (.dma (rsem d (key n))) h1 h2 h3) fun v => k v) Q
  unfold St at h' ⊢
  rw [Toks_cons, dues]
  iintro ⟨#H1, #H2, ⟨%W, H3⟩, H4, H5, H6, Ht, H7⟩
  ihave H6 := (RS_step c (.send d n) ops d ⟨rfl, rfl, rfl⟩) $$ H6
  icases H6 with ⟨H6, Hb⟩
  unfold RS
  rw [show drd (.send d n :: ops) d = drd ops d from rfl, show ys (.send d n :: ops) d = ys ops d from rfl,
    show zs (.send d n :: ops) d = zs ops d from rfl, hdr, hy]
  icases H6 with ⟨Hc, Hf⟩
  ihave Hc := (slot_free c d n hn) $$ [Hc]
  · isplitr; · iexact H2
    iexact Hc
  icases Hc with ⟨⟨Hrr, Hrel⟩, Hc⟩
  ihave H5 := (KS_item X Wt c (.send d n) ops d n (at_eq d n)) $$ H5
  icases H5 with ⟨H5, Hk⟩
  ihave H5 := (KS_send X Wt c d n _ ht hss hw) $$ H5
  icases H5 with ⟨⟨H5, Hsr⟩, Hk'⟩
  unfold Tok
  icases Ht with ⟨Ht1, Ht2, Hwt⟩
  imod (Release.slot_take EV (S := landSlot (F := F) (dst d c) d (key n)) (ι := ιs (dst d c, d, key n)) (k := ((dst d c, d, key n) : Key)) (Set.mem_univ _)
    (n / 4 + 1)) $$ [Hrel Hwt] with Hs
  · isplitr; · iapply (Ctx_slot X Wt κ ιs (dst d c) d (key n)); iexact H1
    isplitl [Hrel]; · iexact Hrel
    iexact Hwt
  unfold landSlot Release.slot
  icases Hs with ⟨%g, Hs⟩
  unfold owns
  icases H5 with ⟨%f, %hf, H5⟩
  iapply (Rounds.wp_send_pointsTo 𝒱₀ ER (sched X Wt) (c : Thread nD τ) none (c' := (dst d c : Thread nD τ)) (src := slotM (sbuf d) (key n))
    (dst := slotM (rbuf d) (key n)) (sS := .dma (ssem d (key n))) (sem := .dma (rsem d (key n))) (q := fullShare.left) (fs := f) (fd := g)
    (κ₁ := κ (scell c d (key n))) (κ₂ := κ (rcell (dst d c) d (key n))) (r₁ := n / 4) (r₂ := n / 4) (d₁ := 0) (d₂ := 0)
    (by rw [duties_snt X Wt c d (key n) _ (by omega)]; exact Finset.mem_singleton_self _)
    (by rw [duties_rcv X Wt (dst d c) d (key n) _ (by omega)]; exact Finset.mem_singleton_self _)
    (rix n) 0 N (credit_any (slotM (rbuf d) (key n))) (amount_snt X Wt c d (key n) _ _) (amount_rcv X Wt (dst d c) d (key n) _ _)
    (dues c ops) rfl (W := W)
    (by
      rw [payload_snt]
      unfold sntPay
      rw [show 4 * (n / 4) + (key n).val = n from n_eq n, ← hf]
      exact owns_intro (c : Thread nD τ) (slotM (sbuf d) (key n)) fullShare.left f)
    (by
      rw [payload_rcv]
      unfold rcvPay
      rw [show 4 * (n / 4) + (key n).val = n from n_eq n, snd_dst, ← hf]
      iintro Ha
      ihave Ha := (owns_intro (dst d c : Thread nD τ) (slotM (rbuf d) (key n)) fullShare _) $$ Ha
      rw [View.read_write_univ]
      iexact Ha)) $$ [H3 H5 Hs Ht1 Ht2 Hsr Hrr]
  · isplitr; · iapply (Ctx_s X Wt κ ιs c d (key n)); iexact H1
    isplitr; · iapply (Ctx_r X Wt κ ιs (dst d c) d (key n)); iexact H1
    isplitl [H5]; · iexact H5
    isplitl [Hs]; · iexact Hs
    isplitl [H3]; · iexact H3
    isplitl [Ht1]; · iexact Ht1
    isplitl [Hsr]; · iexact Hsr
    isplitl [Ht2]; · iexact Ht2
    iexact Hrr
  iintro ⟨Hcr, H3⟩
  iapply h'
  isplitr; · iexact H1
  isplitr; · iexact H2
  isplitl [H3]; · iexists _; iexact H3
  isplitl [H4]; · iexact H4
  isplitl [Hcr Hk Hk']
  · iapply Hk
    iapply Hk'
    iexact Hcr
  isplitl [Hb Hc Hf]
  · iapply Hb
    isplitl [Hc]; · iexact Hc
    iexact Hf
  iexact H7

end Steps

end Cert.Proof

end
-- ==== Proof.Begin.lean ====
/-
  The barrier and the first credits: what a device starts from, and how it comes to its first item.
-/
module

public import proofs.«01_k».proof.Proof.Steps

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- What a device pays at the barrier to the device it receives from. -/
def barT (c : Dev nD) (d : Bool) : CellTallies nD τ sig ℕ := tallyAt (bcell (snd d c)) 1 1
/-- The credits given before anything is received. -/
def seedT (c : Dev nD) (d : Bool) : CellTallies nD τ sig ℕ := tallyAt (ccell (snd d c) d) 2 4

/-- Everything a device owes at the start. -/
def owed (c : Dev nD) : CellTallies nD τ sig ℕ := dues c trace + seedT c true + seedT c false + barT c true + barT c false

set_option maxRecDepth 100000 in
theorem above_trace : above 1 trace = true := by decide +kernel

theorem mayWait_bar (c : Dev nD) : (levAts L lv : sProp 𝕄) ⊢ MayWait (c : Thread nD τ) (.reg bsem) 1 (dues c trace + seedT c true + seedT c false) :=
  Pipeline.mayWait_of_levAts (by rw [L_tc]; exact Finset.mem_range.mpr (by omega)) fun g i hg => by
    have h : g.1.2 = .tc ∧ 1 < i ∧ i ≤ 64 := by
      rw [Pi.add_apply, Finsupp.add_apply, Pi.add_apply, Finsupp.add_apply] at hg
      rcases Nat.add_pos_iff_pos_or_pos.mp hg with hg | hg
      · rcases Nat.add_pos_iff_pos_or_pos.mp hg with hg | hg
        · exact dues_pos c 1 trace above_trace g i hg
        · obtain ⟨rfl, rfl⟩ := tallyAt_pos hg; exact ⟨rfl, by omega, by omega⟩
      · obtain ⟨rfl, rfl⟩ := tallyAt_pos hg; exact ⟨rfl, by omega, by omega⟩
    exact ⟨by rw [show L g = Finset.range 65 from if_pos h.1]; exact Finset.mem_range.mpr (by omega), h.2.1⟩

section

variable (X : Dev nD → Vec F S4096x512 .bf16) (Wt : Dev nD → Vec F S512x8192 .bf16) (κ : GSem nD τ sig → ℕ) (ιs : Key → ℕ)
variable (m0 : Memref sig .tc .vmem S4096x512 .bf16) (m1 : Memref sig .tc .vmem S512x8192 .bf16)

/-- The barrier's counters. -/
def Bars : sProp 𝕄 :=
  bigSep Finset.univ fun x : Dev nD => iprop(cellInv ER (sched X Wt) (κ (bcell x)) (bcell x) ∗ reached ER (bcell x) 0)

theorem Bars_inv (x : Dev nD) : Bars X Wt κ ⊢ cellInv ER (sched X Wt) (κ (bcell x)) (bcell x) := by
  unfold Bars
  iintro H
  ihave H := (pickU _ x) $$ H
  icases H with ⟨H, -⟩
  iexact H
theorem Bars_reached (x : Dev nD) : Bars X Wt κ ⊢ reached ER (bcell x) 0 := by
  unfold Bars
  iintro H
  ihave H := (pickU _ x) $$ H
  icases H with ⟨-, H⟩
  iexact H

instance Bars_persistent : BI.Persistent (Bars X Wt κ) := by unfold Bars; infer_instance

/-- What a device tells at the barrier. -/
def Tell (c : Dev nD) : sProp 𝕄 := bigSep Finset.univ fun d : Bool => iprop(slotFacts (F := F) c d ∗ reached ER (ccell c d) 0)

instance Tell_persistent (c : Dev nD) : BI.Persistent (Tell (F := F) c) := by unfold Tell; infer_instance

theorem Tell_pay (c : Dev nD) (d : Bool) : Tell (F := F) c ⊢ barPay (snd d c) d := by
  unfold Tell barPay
  rw [dst_snd]
  iintro #H
  isplitr
  · ihave H := (pickU _ d) $$ H
    icases H with ⟨H, -⟩
    iexact H
  ihave H := (pickU _ (!d)) $$ H
  icases H with ⟨-, H⟩
  iexact H

/-- What the barrier and the first credits take. -/
def Opening (c : Dev nD) : sProp 𝕄 :=
  iprop(Tell (F := F) c ∗ (atPos ER (bcell c) 0 ∅ 0 ∗ cred (tallyAt (bcell c) 1 2))
    ∗ (dutyTok ER (bcell (snd false c)) 0 0 ∗ dutyTok ER (bcell (snd true c)) 0 1)
    ∗ (dutyTok ER (ccell (snd false c) false) 0 0 ∗ dutyTok ER (ccell (snd true c) true) 0 0))

/-- Everything a device holds at the start of the body. -/
def Start (c : Dev nD) : sProp 𝕄 :=
  iprop((Ctx X Wt κ ιs ∗ Bars X Wt κ) ∗ (∃ W, owes (c : Thread nD τ) (owed c) W)
    ∗ Opening (F := F) c
    ∗ (owns (c : Thread nD τ) m0 fullShare (X c) ∗ owns (c : Thread nD τ) m1 fullShare (Wt c))
    ∗ KSall X Wt c trace ∗ RSall (F := F) c trace ∗ Toks0 (F := F) c trace)

/-- A program from the start. -/
def Open (c : Dev nD) {α : Type} (p : Prog (TpuEff nD τ sig (Elt F) Λ₀ .tc) α) (Q : α → sProp 𝕄) : Prop :=
  Start X Wt κ ιs m0 m1 c ⊢ wp frame (wpE (defs₀ (F := F)) 𝒱₀ (c : Thread nD τ) none) Set.univ p Q

theorem told_of (c : Dev nD) : iprop(barPay (F := F) c false ∗ barPay (F := F) c true) ⊢ Told (F := F) c := by
  unfold Told barPay
  rw [show (Finset.univ : Finset Bool) = {false, true} from by decide, sep_insert _ _ (by decide), bigSep_singleton, show snd true c = dst false c from snd_not false c,
    show snd false c = dst true c from snd_not true c]
  iintro ⟨⟨#H1, #H2⟩, #H3, #H4⟩
  isplitr
  · isplitr; · iexact H1
    iexact H4
  isplitr; · iexact H3
  iexact H2

end

section

variable {X : Dev nD → Vec F S4096x512 .bf16} {Wt : Dev nD → Vec F S512x8192 .bf16} {κ : GSem nD τ sig → ℕ} {ιs : Key → ℕ}
variable {m0 : Memref sig .tc .vmem S4096x512 .bf16} {m1 : Memref sig .tc .vmem S512x8192 .bf16} {c : Dev nD}
variable {α β : Type} {Q : α → sProp (MT nD τ sig ℕ (Elt F) ℕ UU ℕ)}

theorem open_in {p : Prog (TpuEff nD τ sig (Elt F) Λ₀ .tc) β} {k : β → Prog (TpuEff nD τ sig (Elt F) Λ₀ .tc) α}
    (h : Open X Wt κ ιs m0 m1 c p fun v => wp frame (wpE (defs₀ (F := F)) 𝒱₀ (c : Thread nD τ) none) Set.univ (k v) Q) :
    Open X Wt κ ιs m0 m1 c (p >>= k) Q := by
  unfold Open at h ⊢; rw [wp_bind]; exact h

theorem open_id {k : Dev nD → Prog (TpuEff nD τ sig (Elt F) Λ₀ .tc) α} (h : Open X Wt κ ιs m0 m1 c (k c) Q) :
    Open X Wt κ ιs m0 m1 c (Prog.lift .deviceId >>= k) Q := by
  unfold Open at h ⊢
  show _ ⊢ wp frame (wpE (defs₀ (F := F)) 𝒱₀ (c : Thread nD τ) none) Set.univ (.op .deviceId fun v => k v) Q
  rw [wp_deviceId]
  exact h

/-- The barrier, then the first credits, then the items. -/
theorem open_begin {d1 d2 d3 d4 : Dev nD} {s1 s2 s3 s4 s5 : Sem sig} {k : PUnit → Prog (TpuEff nD τ sig (Elt F) Λ₀ .tc) α}
    (hd1 : d1 = snd false c) (hd2 : d2 = snd true c) (hd3 : d3 = snd false c) (hd4 : d4 = snd true c)
    (hs1 : s1 = bsem) (hs2 : s2 = bsem) (hs3 : s3 = bsem) (hs4 : s4 = csem false) (hs5 : s5 = csem true)
    (h : Goal X Wt κ ιs m0 m1 c trace (k ⟨⟩) Q) :
    Open X Wt κ ιs m0 m1 c (semSignalWord d1 s1 1#32 >>= fun _ => semSignalWord d2 s2 1#32 >>= fun _ => semWaitWord s3 2#32 >>= fun _ =>
      semSignalWord d3 s4 4#32 >>= fun _ => semSignalWord d4 s5 4#32 >>= k) Q := by
  subst hd1; subst hd2; subst hd3; subst hd4; subst hs1; subst hs2; subst hs3; subst hs4; subst hs5
  have h' := h valid_trace
  unfold Open
  show _ ⊢ wp frame (wpE (defs₀ (F := F)) 𝒱₀ (c : Thread nD τ) none) Set.univ
    (.op (.semSignal (snd false c : Thread nD τ) bsem 1) fun _ => .op (.semSignal (snd true c : Thread nD τ) bsem 1) fun _ => .op (.semWait bsem 2) fun _ =>
      .op (.semSignal (snd false c : Thread nD τ) (csem false) 4) fun _ => .op (.semSignal (snd true c : Thread nD τ) (csem true) 4) fun v => k v) Q
  unfold St at h'
  unfold Start Opening owed
  iintro ⟨⟨#H1, #HB⟩, ⟨%W, H3⟩, ⟨#HT, ⟨Hat, Hcr⟩, ⟨Hb1, Hb2⟩, ⟨Hs1, Hs2⟩⟩, H4, H5, H6, H7⟩
  iapply (Rounds.wp_signal 𝒱₀ ER (sched X Wt) (c : Thread nD τ) none (dst := (snd false c : Thread nD τ)) (sem := bsem) (r := 0) (d := 0)
    (κ := κ (bcell (snd false c))) (by rw [duties_bar]; decide) (by rw [amount_bar]) 1
    (dues c trace + seedT c true + seedT c false + barT c true) rfl) $$ [H3 Hb1]
  · isplitr; · iapply (Bars_inv X Wt κ (snd false c)); iexact HB
    isplitl [H3]; · iexact H3
    isplitl [Hb1]; · iexact Hb1
    isplitr
    · rw [payload_bar]
      iapply (Tell_pay c false); iexact HT
    iapply (Bars_reached X Wt κ (snd false c)); iexact HB
  iintro H3
  iapply (Rounds.wp_signal 𝒱₀ ER (sched X Wt) (c : Thread nD τ) none (dst := (snd true c : Thread nD τ)) (sem := bsem) (r := 0) (d := 1)
    (κ := κ (bcell (snd true c))) (by rw [duties_bar]; decide) (by rw [amount_bar]) 1
    (dues c trace + seedT c true + seedT c false) rfl) $$ [H3 Hb2]
  · isplitr; · iapply (Bars_inv X Wt κ (snd true c)); iexact HB
    isplitl [H3]; · iexact H3
    isplitl [Hb2]; · iexact Hb2
    isplitr
    · rw [payload_bar]
      iapply (Tell_pay c true); iexact HT
    iapply (Bars_reached X Wt κ (snd true c)); iexact HB
  iintro H3
  iapply (Rounds.wp_wait_rest_token 𝒱₀ ER (sched X Wt) (c : Thread nD τ) none (κ := κ (bcell c))
    (wpE_semWait_eq 𝒱₀ (c : Thread nD τ) none Set.univ) (Set.mem_univ _) 1 (O := dues c trace + seedT c true + seedT c false) (R := 0) (m := 0) (T := ∅)
    (by rw [expect_bar])) $$ [Hcr H3 Hat]
  · isplitr; · iapply (Bars_inv X Wt κ c); iexact HB
    isplitl [Hcr]; · iexact Hcr
    isplitl [H3]; · iexact H3
    isplitr
    · iapply (mayWait_bar c)
      iapply (Ctx_lev X Wt κ ιs); iexact H1
    iexact Hat
  iintro ⟨H3, Hat, -, Hp⟩
  ihave Hp := (Entails.of_eq (rest_bar X Wt c)) $$ Hp
  ihave Hp := (told_of c) $$ Hp
  icases Hp with #H2
  iapply (Rounds.wp_signal 𝒱₀ ER (sched X Wt) (c : Thread nD τ) none (dst := (snd false c : Thread nD τ)) (sem := csem false) (r := 0) (d := 0)
    (κ := κ (ccell (snd false c) false)) (by rw [duties_cred]; decide) (by rw [amount_cred]; rfl) 2
    (dues c trace + seedT c true) rfl) $$ [H3 Hs1]
  · isplitr; · iapply (Ctx_c X Wt κ ιs (snd false c) false); iexact H1
    isplitl [H3]; · iexact H3
    isplitl [Hs1]; · iexact Hs1
    isplitr
    · rw [payload_cred]
      unfold duePay
      rw [if_pos rfl]
      iempintro
    iapply (Told_cred c false); iexact H2
  iintro H3
  iapply (Rounds.wp_signal 𝒱₀ ER (sched X Wt) (c : Thread nD τ) none (dst := (snd true c : Thread nD τ)) (sem := csem true) (r := 0) (d := 0)
    (κ := κ (ccell (snd true c) true)) (by rw [duties_cred]; decide) (by rw [amount_cred]; rfl) 2
    (dues c trace) rfl) $$ [H3 Hs2]
  · isplitr; · iapply (Ctx_c X Wt κ ιs (snd true c) true); iexact H1
    isplitl [H3]; · iexact H3
    isplitl [Hs2]; · iexact Hs2
    isplitr
    · rw [payload_cred]
      unfold duePay
      rw [if_pos rfl]
      iempintro
    iapply (Told_cred c true); iexact H2
  iintro H3
  iapply h'
  isplitr; · iexact H1
  isplitr; · iexact H2
  isplitl [H3]; · iexists _; iexact H3
  isplitl [H4]; · iexact H4
  isplitl [H5]; · iexact H5
  isplitl [H6]; · iexact H6
  unfold Toks
  isplitl [H7]; · iexact H7
  iexact Hat

end

end Cert.Proof

end
-- ==== Proof.Walk.lean ====
/-
  The body is walked once, step by step.
-/
module

public import proofs.«01_k».proof.Proof.Begin

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section

variable {X : Dev nD → Vec F S4096x512 .bf16} {Wt : Dev nD → Vec F S512x8192 .bf16} {κ : GSem nD τ sig → ℕ} {ιs : Key → ℕ}
variable {m0 : Memref sig .tc .vmem S4096x512 .bf16} {m1 : Memref sig .tc .vmem S512x8192 .bf16} {c : Dev nD}
variable {α β : Type} {Q : α → sProp (MT nD τ sig ℕ (Elt F) ℕ UU ℕ)} {ops : List Op}

/-- Only the program of a goal is rewritten. -/
theorem goal_congr {p p' : Prog (TpuEff nD τ sig (Elt F) Λ₀ .tc) α} (h : p = p') :
    Goal X Wt κ ιs m0 m1 c ops p Q = Goal X Wt κ ιs m0 m1 c ops p' Q := by rw [h]

/-- A part of the program, begun. -/
theorem goal_in {γ : Type} {p : Prog (TpuEff nD τ sig (Elt F) Λ₀ .tc) γ} {k' : γ → Prog (TpuEff nD τ sig (Elt F) Λ₀ .tc) β} {k : β → Prog (TpuEff nD τ sig (Elt F) Λ₀ .tc) α}
    (h : Goal X Wt κ ιs m0 m1 c ops (p >>= k') fun v => wp frame (wpE (defs₀ (F := F)) 𝒱₀ (c : Thread nD τ) none) Set.univ (k v) Q) :
    Goal X Wt κ ιs m0 m1 c ops ((p >>= k') >>= k) Q := goal_enter h

/-- Only the program is rewritten. -/
theorem open_congr {p p' : Prog (TpuEff nD τ sig (Elt F) Λ₀ .tc) α} (h : p = p') :
    Open X Wt κ ιs m0 m1 c p Q = Open X Wt κ ιs m0 m1 c p' Q := by rw [h]

theorem dev_ext {a : ℕ} {h : a < nD} {x : Dev nD} (e : a = x.val) : (⟨a, h⟩ : Dev nD) = x := Fin.ext e

theorem psig_fst {γ : Type} {δ : γ → Type} (a : γ) (b : δ a) : (PSigma.mk a b : PSigma δ).fst = a := rfl
theorem psig_snd {γ : Type} {δ : γ → Type} (a : γ) (b : δ a) : (PSigma.mk a b : PSigma δ).snd = b := rfl

/-- A part of the program that returns the device's number, ended. -/
theorem goal_pure_dev {δ : Dev nD → Type} {a : Dev nD} {b : δ a} {k : PSigma δ → Prog (TpuEff nD τ sig (Elt F) Λ₀ .tc) α}
    (h : Goal X Wt κ ιs m0 m1 c ops (k ⟨a, b⟩) Q) :
    Goal X Wt κ ιs m0 m1 c ops (Pure.pure (PSigma.mk a b)) fun v => wp frame (wpE (defs₀ (F := F)) 𝒱₀ (c : Thread nD τ) none) Set.univ (k v) Q := goal_pure h

/-- The end of the program. -/
theorem goal_done {v : α} (h : St X Wt κ ιs m0 m1 c [] ⊢ |={Set.univ}=> Q v) : Goal X Wt κ ιs m0 m1 c [] (Pure.pure v) Q := by
  intro _
  show _ ⊢ wp frame (wpE (defs₀ (F := F)) 𝒱₀ (c : Thread nD τ) none) Set.univ (.ret v) Q
  rw [wp_ret]
  exact h

variable {d : Bool} {n : ℕ} {m : Memref sig .tc .vmem S2x2x128x8192 .bf16} {off : Fin 4 → ℕ}
  {inb : ∀ a, off a + S1x1x128x8192.size a ≤ S2x2x128x8192.size a} {w : FVec F S1x1x128x8192 .bf16}
  {hx : (m.access (Rect.unit (s := S2x2x128x8192) off S1x1x128x8192.size inb)).Stores Finset.univ}
  {hmm : (Finset.univ : Finset (Rect.unit (s := S2x2x128x8192) off S1x1x128x8192.size inb).shape.Idx) = Finset.univ
    ∨ ∀ a, (Rect.unit (s := S2x2x128x8192) off S1x1x128x8192.size inb).stride a = 1}
  {k : PUnit → Prog (TpuEff nD τ sig (Elt F) Λ₀ .tc) α}

/-- The store of a segment of the first product. -/
theorem step_first (hn : Nat.blt n 2 = true) (hm : m = sbuf d) (ho : off = ![(key n).val / 2, (key n).val % 2, 0, 0])
    (hw : w = wrap (segOf n (part X Wt c d 0))) (h : Goal X Wt κ ιs m0 m1 c ops (k ⟨⟩) Q) :
    Goal X Wt κ ιs m0 m1 c (.st d n :: ops)
      (Prog.lift (.store m (Rect.unit (s := S2x2x128x8192) off S1x1x128x8192.size inb) w Finset.univ hx hmm) >>= k) Q := by
  refine step_st hm ho (hw.trans ?_) h
  have h2 : n < 2 := by simpa [Nat.blt_eq] using hn
  unfold item
  rw [Nat.mod_eq_of_lt h2, Nat.div_eq_of_lt h2]
  rfl

theorem item_succ (n : ℕ) (h : 2 ≤ n) : item X Wt c d n = if n / 2 - 1 < 6 then addf (segOf (n % 2) (part X Wt c d (n / 2))) (item X Wt (snd d c) d (n - 2))
      else if n / 2 - 1 = 6 then geluOf (addf (segOf (n % 2) (part X Wt c d (n / 2))) (item X Wt (snd d c) d (n - 2)))
      else item X Wt (snd d c) d (n - 2) := by
  obtain ⟨a, rfl⟩ : ∃ a, n = a + 2 := ⟨n - 2, by omega⟩
  unfold item
  rw [show (a + 2) / 2 = a / 2 + 1 by omega, show (a + 2) % 2 = a % 2 by omega, show a + 2 - 2 = a from rfl, show a / 2 + 1 - 1 = a / 2 from rfl]
  rfl

/-- The store of a partial sum. -/
theorem step_sum (hn : (Nat.ble 2 n && Nat.blt n 14) = true) (hm : m = sbuf d) (ho : off = ![(key n).val / 2, (key n).val % 2, 0, 0])
    (hw : w = wrap (addf (segOf (n % 2) (part X Wt c d (n / 2))) (unwrap (wrap (item X Wt (snd d c) d (n - 2))))))
    (h : Goal X Wt κ ιs m0 m1 c ops (k ⟨⟩) Q) :
    Goal X Wt κ ιs m0 m1 c (.st d n :: ops)
      (Prog.lift (.store m (Rect.unit (s := S2x2x128x8192) off S1x1x128x8192.size inb) w Finset.univ hx hmm) >>= k) Q := by
  refine step_st hm ho (hw.trans ?_) h
  simp only [Bool.and_eq_true, Nat.blt_eq, Nat.ble_eq] at hn
  rw [item_succ n hn.1, if_pos (show n / 2 - 1 < 6 by omega), unwrap_wrap]

/-- The store of the epilogue of a whole sum. -/
theorem step_epi (hn : (Nat.ble 14 n && Nat.blt n 16) = true) (hm : m = sbuf d) (ho : off = ![(key n).val / 2, (key n).val % 2, 0, 0])
    (hw : w = wrap (geluOf (addf (segOf (n % 2) (part X Wt c d (n / 2))) (unwrap (wrap (item X Wt (snd d c) d (n - 2)))))))
    (h : Goal X Wt κ ιs m0 m1 c ops (k ⟨⟩) Q) :
    Goal X Wt κ ιs m0 m1 c (.st d n :: ops)
      (Prog.lift (.store m (Rect.unit (s := S2x2x128x8192) off S1x1x128x8192.size inb) w Finset.univ hx hmm) >>= k) Q := by
  refine step_st hm ho (hw.trans ?_) h
  simp only [Bool.and_eq_true, Nat.blt_eq, Nat.ble_eq] at hn
  rw [item_succ n (by omega), if_neg (show ¬ n / 2 - 1 < 6 by omega), if_pos (show n / 2 - 1 = 6 by omega), unwrap_wrap]

/-- The store of a finished segment on its way round. -/
theorem step_fwd (hn : Nat.ble 16 n = true) (hm : m = sbuf d) (ho : off = ![(key n).val / 2, (key n).val % 2, 0, 0])
    (hw : w = wrap (unwrap (wrap (item X Wt (snd d c) d (n - 2))))) (h : Goal X Wt κ ιs m0 m1 c ops (k ⟨⟩) Q) :
    Goal X Wt κ ιs m0 m1 c (.st d n :: ops)
      (Prog.lift (.store m (Rect.unit (s := S2x2x128x8192) off S1x1x128x8192.size inb) w Finset.univ hx hmm) >>= k) Q := by
  refine step_st hm ho (hw.trans ?_) h
  simp only [Nat.ble_eq] at hn
  rw [item_succ n (by omega), if_neg (show ¬ n / 2 - 1 < 6 by omega), if_neg (show ¬ n / 2 - 1 = 6 by omega), unwrap_wrap]

end

attribute [local irreducible] Goal Open
attribute [local congr] goal_congr open_congr

set_option maxRecDepth 65536 in
set_option maxHeartbeats 40000000 in
/-- The body, from the start to the end. -/
theorem walk (X : Dev nD → Vec F S4096x512 .bf16) (Wt : Dev nD → Vec F S512x8192 .bf16) (κ : GSem nD τ sig → ℕ) (ιs : Key → ℕ)
    (m0 : Memref sig .tc .vmem S4096x512 .bf16) (h0 : m0.IsWhole) (m1 : Memref sig .tc .vmem S512x8192 .bf16) (h1 : m1.IsWhole) (c : Dev nD)
    (Q : PUnit → sProp (MT nD τ sig ℕ (Elt F) ℕ UU ℕ)) (hQ : St X Wt κ ιs m0 m1 c [] ⊢ |={Set.univ}=> Q ⟨⟩) :
    Open X Wt κ ιs m0 m1 c (cc0_body (F := F) m0 h0 m1 h1 (Memref.whole main_v2) (Memref.isWhole_whole _) (Memref.whole main_v2) (Memref.isWhole_whole _)
      (Memref.whole cc0_scratch0) (Memref.isWhole_whole _) (Memref.whole cc0_scratch1) (Memref.isWhole_whole _) cc0_scratch2 cc0_scratch3 cc0_scratch4 cc0_scratch5
      (Memref.whole cc0_scratch6) (Memref.isWhole_whole _) (Memref.whole cc0_scratch7) (Memref.isWhole_whole _) cc0_scratch8 cc0_scratch9 cc0_scratch10 cc0_scratch11) Q := by
  simp -proj only [cc0_body_eq_skeleton, cc0_body_skel,
    k0_part1_eq_skeleton, k0_part1_skel, k0_part2_eq_skeleton, k0_part2_skel, k0_part3_eq_skeleton, k0_part3_skel, k0_part4_eq_skeleton,
    k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton,
    k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton,
    k0_part18_skel, k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel, k0_part25_eq_skeleton,
    k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton,
    k0_part32_skel, k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel, k0_part39_eq_skeleton,
    k0_part39_skel, k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel, k0_part46_eq_skeleton,
    k0_part46_skel, k0_part47_eq_skeleton, k0_part47_skel, k0_part48_eq_skeleton, k0_part48_skel, k0_part49_eq_skeleton, k0_part49_skel,
    k0_part50_eq_skeleton, k0_part50_skel, k0_part51_eq_skeleton, k0_part51_skel, k0_part52_eq_skeleton, k0_part52_skel, k0_part53_eq_skeleton,
    k0_part53_skel, k0_part54_eq_skeleton, k0_part54_skel, k0_part55_eq_skeleton, k0_part55_skel, k0_part56_eq_skeleton, k0_part56_skel,
    k0_part57_eq_skeleton, k0_part57_skel, k0_part58_eq_skeleton, k0_part58_skel, k0_part59_eq_skeleton, k0_part59_skel, k0_part60_eq_skeleton,
    k0_part60_skel, k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel, k0_part67_eq_skeleton,
    k0_part67_skel, k0_part68_eq_skeleton, k0_part68_skel, k0_part69_eq_skeleton, k0_part69_skel, k0_part70_eq_skeleton, k0_part70_skel,
    k0_part71_eq_skeleton, k0_part71_skel, k0_part72_eq_skeleton, k0_part72_skel, k0_part73_eq_skeleton, k0_part73_skel, k0_part74_eq_skeleton,
    k0_part74_skel, k0_part75_eq_skeleton, k0_part75_skel, k0_part76_eq_skeleton, k0_part76_skel, k0_part77_eq_skeleton, k0_part77_skel,
    k0_part78_eq_skeleton, k0_part78_skel, k0_part79_eq_skeleton, k0_part79_skel, k0_part80_eq_skeleton, k0_part80_skel, k0_part81_eq_skeleton,
    k0_part81_skel, k0_part82_eq_skeleton, k0_part82_skel, k0_part83_eq_skeleton, k0_part83_skel, k0_part84_eq_skeleton, k0_part84_skel,
    k0_part85_eq_skeleton, k0_part85_skel, k0_part86_eq_skeleton, k0_part86_skel, k0_part87_eq_skeleton, k0_part87_skel, k0_part88_eq_skeleton,
    k0_part88_skel, k0_part89_eq_skeleton, k0_part89_skel, k0_part90_eq_skeleton, k0_part90_skel, k0_part91_eq_skeleton, k0_part91_skel,
    k0_part92_eq_skeleton, k0_part92_skel, k0_part93_eq_skeleton, k0_part93_skel, k0_part94_eq_skeleton, k0_part94_skel, k0_part95_eq_skeleton,
    k0_part95_skel, k0_part96_eq_skeleton, k0_part96_skel, k0_part97_eq_skeleton, k0_part97_skel, k0_part98_eq_skeleton, k0_part98_skel,
    k0_part99_eq_skeleton, k0_part99_skel, k0_part100_eq_skeleton, k0_part100_skel, k0_part101_eq_skeleton, k0_part101_skel, k0_part102_eq_skeleton,
    k0_part102_skel, k0_part103_eq_skeleton, k0_part103_skel, k0_part104_eq_skeleton, k0_part104_skel, k0_part105_eq_skeleton, k0_part105_skel,
    k0_part106_eq_skeleton, k0_part106_skel, k0_part107_eq_skeleton, k0_part107_skel, k0_part108_eq_skeleton, k0_part108_skel, k0_part109_eq_skeleton,
    k0_part109_skel, k0_part110_eq_skeleton, k0_part110_skel, k0_part111_eq_skeleton, k0_part111_skel, k0_part112_eq_skeleton, k0_part112_skel,
    k0_part113_eq_skeleton, k0_part113_skel, k0_part114_eq_skeleton, k0_part114_skel, k0_part115_eq_skeleton, k0_part115_skel, k0_part116_eq_skeleton,
    k0_part116_skel]
  refine open_in ?_
  refine open_in ?_
  refine open_id ?_
  refine open_begin (F := F) ?_ ?_ ?_ ?_ rfl rfl rfl rfl rfl ?_
  iterate 4 (clear * - c; revert c; decide +kernel)
  generalize ht : trace = ops
  simp only [trace, seed, sendBoth, freed, loads, rsRing, rsItem, rsStep, agRing, agItem, gathers, drained, Nat.reduceLeDiff, Nat.reduceMul, Nat.reduceAdd,
    Nat.reduceSub, Nat.reduceLT, Nat.lt_irrefl, if_true, if_false, List.cons_append, List.nil_append, List.append_nil] at ht
  subst ht
  repeat first
    | ((with_reducible refine goal_pure_dev ?_); try dsimp -proj only [psig_fst, psig_snd])
    | with_reducible refine goal_pure ?_
    | with_reducible refine goal_in ?_
    | (refine step_ldx ?_ ?_; (clear * - c; revert c; decide +kernel))
    | with_reducible refine step_ldw ?_
    | ((with_reducible refine step_ldd ?_ ?_ fun _ => ?_); exact rfl; exact rfl)
    | ((with_reducible refine step_ldr ?_ ?_ ?_); exact rfl; exact rfl)
    | ((with_reducible refine step_first (by decide) ?_ ?_ ?_ ?_); exact rfl; exact rfl; exact rfl)
    | ((with_reducible refine step_sum (by decide) ?_ ?_ ?_ ?_); exact rfl; exact rfl; exact rfl)
    | ((with_reducible refine step_epi (by decide) ?_ ?_ ?_ ?_); exact rfl; exact rfl; exact rfl)
    | ((with_reducible refine step_fwd (by decide) ?_ ?_ ?_ ?_); exact rfl; exact rfl; exact rfl)
    | ((with_reducible refine step_recv ?_ ?_); exact rfl)
    | ((with_reducible refine step_sw ?_ ?_); exact rfl)
    | ((with_reducible refine step_ow ?_ ?_); exact rfl)
    | ((with_reducible refine step_cw ?_ ?_); exact rfl)
    | ((with_reducible refine step_drain ?_ ?_); exact rfl)
    | ((with_reducible refine step_give ?_ ?_ ?_); (refine dev_ext ?_; clear * - c; revert c; decide +kernel); exact rfl)
    | ((with_reducible refine step_send ?_ ?_ ?_ ?_ ?_ ?_); exact rfl; exact rfl; (refine dev_ext ?_; clear * - c; revert c; decide +kernel); exact rfl; exact rfl)
    | (refine step_out ?_ ?_ ?_ ?_ ?_; exact rfl; exact rfl; (clear * - c; revert c; decide +kernel); exact rfl)

  exact goal_done hQ

end Cert.Proof

end
-- ==== Proof.Lists.lean ====
/-
  The steps of a device, sorted by kind: what all the steps take is what each kind of step takes.
-/
module

public import proofs.«01_k».proof.Proof.Walk

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Chains over lists -/

section Chains

variable {M : Type} [URA M] {I : Type}

theorem sep_swap (A B C : sProp M) : iprop(A ∗ B ∗ C) ⊢ iprop(B ∗ A ∗ C) := by
  iintro ⟨H1, H2, H3⟩
  isplitl [H2]; · iexact H2
  isplitl [H1]; · iexact H1
  iexact H3

theorem sep_four (A B C D : sProp M) : iprop((A ∗ B) ∗ C ∗ D) ⊢ iprop((A ∗ C) ∗ B ∗ D) := by
  iintro ⟨⟨H1, H2⟩, H3, H4⟩
  isplitl [H1 H3]
  · isplitl [H1]; · iexact H1
    iexact H3
  isplitl [H2]; · iexact H2
  iexact H4

/-- The order of a chain does not matter. -/
theorem chain_perm (Φ : I → sProp M) {l l' : List I} (h : l.Perm l') : bigSepL l Φ = bigSepL l' Φ := by
  induction h with
  | nil => rfl
  | cons x _ ih => rw [bigSepL_cons, bigSepL_cons, ih]
  | swap x y l =>
    rw [bigSepL_cons, bigSepL_cons, bigSepL_cons, bigSepL_cons]
    exact BI.Entails.antisymm (sep_swap _ _ _) (sep_swap _ _ _)
  | trans _ _ h1 h2 => exact h1.trans h2

/-- Members that stand for nothing may be left out. -/
theorem chain_filter (Φ : I → sProp M) (p : I → Bool) (h : ∀ i, p i = false → Φ i = BI.emp) (l : List I) :
    bigSepL l Φ = bigSepL (l.filter p) Φ := by
  induction l with
  | nil => rfl
  | cons x l ih =>
    rw [bigSepL_cons, ih]
    cases hp : p x with
    | true => rw [List.filter_cons_of_pos hp, bigSepL_cons]
    | false =>
      rw [List.filter_cons_of_neg (by rw [hp]; exact Bool.false_ne_true), h x hp]
      exact equiv_iff.mp BI.emp_sep

/-- All numbers below a bound, as a list. -/
theorem chain_fin (n : ℕ) (Φ : ℕ → sProp M) : (bigSep Finset.univ fun i : Fin n => Φ i.val) = bigSepL (List.range n) Φ := by
  rw [bigSep_univ_eq_bigSepL (List.finRange n) (by ext i; simp) (List.nodup_finRange n), ← List.map_coe_finRange_eq_range, bigSepL_map]

/-- Two chains over one list, member by member. -/
theorem chain_sep (l : List I) (Φ Ψ : I → sProp M) : bigSepL l (fun i => iprop(Φ i ∗ Ψ i)) = iprop(bigSepL l Φ ∗ bigSepL l Ψ) := by
  induction l with
  | nil => exact (equiv_iff.mp BI.emp_sep).symm
  | cons x l ih =>
    rw [bigSepL_cons', bigSepL_cons', bigSepL_cons', ih]
    exact BI.Entails.antisymm (sep_four _ _ _ _) (sep_four _ _ _ _)

/-- What holds of both rings. -/
theorem both (Φ : Bool → sProp M) : bigSep Finset.univ Φ = iprop(Φ false ∗ Φ true) := by
  rw [show (Finset.univ : Finset Bool) = {false, true} from by decide, bigSep_insert (by decide), bigSep_singleton]
  rfl

end Chains

/-! ## The steps by kind -/

/-- The steps that take something for themselves. -/
def heavy : Op → Bool
  | .send _ _ | .recv _ _ | .give _ _ | .cw _ _ | .drain _ | .out _ _ => true
  | _ => false

/-- A ring's steps that take something, by kind. -/
def ringOps (d : Bool) : List Op :=
  (List.range 28).map (.send d) ++ ((List.range 28).map (.recv d) ++ ((List.range 28).map (.give d) ++ ((List.range 28).map (.cw d) ++
    ([.drain d] ++ (List.range 16).map (fun n => .out d (n + 14))))))

set_option maxRecDepth 100000 in
theorem trace_perm : (trace.filter heavy).Perm (ringOps false ++ ringOps true) := by decide +kernel

/-- What a ring's steps stand for, by kind. -/
def ringSep {M : Type} [URA M] (Φ : Op → sProp M) (d : Bool) : sProp M :=
  iprop(bigSepL (List.range 28) (fun n => Φ (.send d n)) ∗ bigSepL (List.range 28) (fun n => Φ (.recv d n))
    ∗ bigSepL (List.range 28) (fun n => Φ (.give d n)) ∗ bigSepL (List.range 28) (fun n => Φ (.cw d n))
    ∗ Φ (.drain d) ∗ bigSepL (List.range 16) (fun n => Φ (.out d (n + 14))))

theorem trace_sep {M : Type} [URA M] (Φ : Op → sProp M) (h : ∀ op, heavy op = false → Φ op = BI.emp) :
    bigSepL trace Φ = bigSep Finset.univ (ringSep Φ) := by
  rw [chain_filter Φ heavy h, chain_perm Φ trace_perm, both, bigSepL_append]
  unfold ringOps ringSep
  simp only [bigSepL_append, bigSepL_map, bigSepL_singleton]

end Cert.Proof

end
-- ==== Proof.Credits.lean ====
/-
  What the other devices owe a device, as the credits its own waits use.
-/
module

public import proofs.«01_k».proof.Proof.Lists

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- What a step of the device at the other end pays to device `c`. -/
def got (c : Dev nD) : Op → sProp 𝕄
  | .send d n => cred (tallyAt (rcell c d (key n)) (rix n) N)
  | .give d n => cred (tallyAt (ccell c d) (cix n) 1)
  | _ => iprop(emp)

theorem launch_due (c : Dev nD) (op : Op) : (Pipeline.launchCred (fun x => due x op) c : sProp 𝕄) ⊢ got c op := by
  cases op with
  | send d n => exact Pipeline.launchCred_tallyAt (.dma (rsem d (key n))) (dst d) (snd d) (dst_snd d) (snd_dst d) (rix n) N c
  | give d n => exact Pipeline.launchCred_tallyAt (.reg (csem d)) (snd d) (dst d) (snd_dst d) (dst_snd d) (cix n) 1 c
  | _ => exact Entails.of_eq (Pipeline.launchCred_zero c)

theorem launch_dues (c : Dev nD) : ∀ ops : List Op, (Pipeline.launchCred (fun x => dues x ops) c : sProp 𝕄) ⊢ bigSepL ops (got c)
  | [] => Entails.of_eq (Pipeline.launchCred_zero c)
  | op :: ops => by
    rw [bigSepL_cons', show (fun x : Dev nD => dues x (op :: ops)) = fun x => dues x ops + due x op from rfl, Pipeline.launchCred_add]
    iintro ⟨H1, H2⟩
    isplitl [H2]
    · iapply (launch_due c op) $$ H2
    · iapply (launch_dues c ops) $$ H1

theorem launch_bar (c : Dev nD) (d : Bool) : (Pipeline.launchCred (fun x => barT x d) c : sProp 𝕄) ⊢ cred (tallyAt (bcell c) 1 1) :=
  Pipeline.launchCred_tallyAt (.reg bsem) (snd d) (dst d) (snd_dst d) (dst_snd d) 1 1 c
theorem launch_seed (c : Dev nD) (d : Bool) : (Pipeline.launchCred (fun x => seedT x d) c : sProp 𝕄) ⊢ cred (tallyAt (ccell c d) 2 4) :=
  Pipeline.launchCred_tallyAt (.reg (csem d)) (snd d) (dst d) (snd_dst d) (dst_snd d) 2 4 c

/-- Credits of one kind add up. -/
theorem cred_sum (g : GSem nD τ sig) (i a b : ℕ) : (cred (tallyAt g i (a + b)) : sProp 𝕄) ⊣⊢ iprop(cred (tallyAt g i a) ∗ cred (tallyAt g i b)) := by
  rw [← tallyAt_add]; exact cred_add _ _

theorem cred_four (g : GSem nD τ sig) (i : ℕ) :
    (cred (tallyAt g i 4) : sProp 𝕄) ⊣⊢ iprop(cred (tallyAt g i 1) ∗ cred (tallyAt g i 1) ∗ cred (tallyAt g i 1) ∗ cred (tallyAt g i 1)) := by
  constructor
  · iintro H
    ihave H := (cred_sum g i 1 3).1 $$ H
    icases H with ⟨H1, H⟩
    ihave H := (cred_sum g i 1 2).1 $$ H
    icases H with ⟨H2, H⟩
    ihave H := (cred_sum g i 1 1).1 $$ H
    isplitl [H1]; · iexact H1
    isplitl [H2]; · iexact H2
    iexact H
  · iintro ⟨H1, H2, H⟩
    iapply (cred_sum g i 1 3).2
    isplitl [H1]; · iexact H1
    iapply (cred_sum g i 1 2).2
    isplitl [H2]; · iexact H2
    iapply (cred_sum g i 1 1).2
    iexact H

/-- The credits of a ring: the first four allow items 0 to 3, the credit of an item allows the item four later, and the last
    four are waited for together. -/
theorem credits_shift (c : Dev nD) (d : Bool) :
    iprop(bigSepL (List.range 28) (fun n => (cred (tallyAt (ccell c d) (cix n) 1) : sProp 𝕄)) ∗ cred (tallyAt (ccell c d) 2 4))
      ⊢ iprop(bigSepL (List.range 28) (fun n => cred (tallyAt (ccell c d) (wix n) 1)) ∗ cred (tallyAt (ccell c d) 61 4)) := by
  have h1 : bigSepL (List.range 28) (fun n => (cred (tallyAt (ccell c d) (cix n) 1) : sProp 𝕄))
      = iprop(bigSepL (List.range 24) (fun n => cred (tallyAt (ccell c d) (cix n) 1)) ∗ cred (tallyAt (ccell c d) 61 1) ∗ cred (tallyAt (ccell c d) 61 1)
        ∗ cred (tallyAt (ccell c d) 61 1) ∗ cred (tallyAt (ccell c d) 61 1)) := by
    rw [show List.range 28 = List.range 24 ++ [24, 25, 26, 27] from by decide, bigSepL_append]; rfl
  have h2 : bigSepL (List.range 28) (fun n => (cred (tallyAt (ccell c d) (wix n) 1) : sProp 𝕄))
      = iprop((cred (tallyAt (ccell c d) 2 1) ∗ cred (tallyAt (ccell c d) 2 1) ∗ cred (tallyAt (ccell c d) 2 1) ∗ cred (tallyAt (ccell c d) 2 1))
        ∗ bigSepL (List.range 24) (fun n => cred (tallyAt (ccell c d) (cix n) 1))) := by
    rw [show List.range 28 = [0, 1, 2, 3] ++ (List.range 24).map (· + 4) from by decide, bigSepL_append, bigSepL_map]; rfl
  rw [h1, h2]
  iintro ⟨⟨H1, H2⟩, H3⟩
  isplitl [H1 H3]
  · isplitl [H3]; · iapply (cred_four _ 2).1 $$ H3
    iexact H1
  iapply (cred_four _ 61).2 $$ H2

/-- The credits a ring's waits use. -/
def ringCreds (c : Dev nD) (d : Bool) : sProp 𝕄 :=
  iprop(bigSepL (List.range 28) (fun n => cred (tallyAt (rcell c d (key n)) (rix n) N))
    ∗ bigSepL (List.range 28) (fun n => cred (tallyAt (ccell c d) (wix n) 1)) ∗ cred (tallyAt (ccell c d) 61 4))

theorem ringCreds_of (c : Dev nD) (d : Bool) : iprop(ringSep (got (F := F) c) d ∗ cred (tallyAt (ccell c d) 2 4)) ⊢ ringCreds (F := F) c d := by
  unfold ringSep ringCreds
  iintro ⟨⟨H1, -, H2, -⟩, H3⟩
  isplitl [H1]; · iexact H1
  iapply (credits_shift c d)
  isplitl [H2]; · iexact H2
  iexact H3

/-- All that is owed to a device. -/
theorem launch_creds (c : Dev nD) : (Pipeline.launchCred owed c : sProp 𝕄)
    ⊢ iprop((ringCreds c false ∗ ringCreds c true) ∗ cred (tallyAt (bcell c) 1 2)) := by
  rw [show (owed : Dev nD → _) = fun x => dues x trace + seedT x true + seedT x false + barT x true + barT x false from rfl,
    Pipeline.launchCred_add, Pipeline.launchCred_add, Pipeline.launchCred_add, Pipeline.launchCred_add]
  iintro ⟨⟨⟨⟨H, Hst⟩, Hsf⟩, Hbt⟩, Hbf⟩
  ihave H := (launch_dues c trace) $$ H
  ihave H := (Entails.of_eq (trace_sep (got (F := F) c) fun op h => by cases op <;> first | rfl | cases h)) $$ H
  ihave H := (Entails.of_eq (both (ringSep (got (F := F) c)))) $$ H
  icases H with ⟨Hf, Ht⟩
  isplitr [Hbt Hbf]
  · isplitl [Hf Hsf]
    · iapply (ringCreds_of c false)
      isplitl [Hf]; · iexact Hf
      iapply (launch_seed c false) $$ Hsf
    · iapply (ringCreds_of c true)
      isplitl [Ht]; · iexact Ht
      iapply (launch_seed c true) $$ Hst
  iapply (cred_sum (bcell c) 1 1 1).2
  isplitl [Hbt]
  · iapply (launch_bar c true) $$ Hbt
  · iapply (launch_bar c false) $$ Hbf

end Cert.Proof

end
-- ==== Proof.Ghost.lean ====
/-
  The semaphores of a device, the rights to raise them, and who starts with which.
-/
module

public import proofs.«01_k».proof.Proof.Credits

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Tokens, by who pays -/

/-- A duty of a ring: the barrier, a credit, a landing, a departure, a copy to the result. -/
abbrev Duty : Type := Unit ⊕ Fin 29 ⊕ Fin 28 ⊕ Fin 28 ⊕ Fin 16

/-- The token of a duty that device `c` pays on ring `d`. -/
def tokOf (c : Dev nD) (d : Bool) : Duty → GSem nD τ sig × ℕ × ℕ
  | .inl _ => (bcell (snd d c), 0, if d then 1 else 0)
  | .inr (.inl u) => (ccell (snd d c) d, 0, u.val)
  | .inr (.inr (.inl n)) => (rcell (dst d c) d (key n.val), n.val / 4, 0)
  | .inr (.inr (.inr (.inl n))) => (scell c d (key n.val), n.val / 4, 0)
  | .inr (.inr (.inr (.inr n))) => (ocell c d (key (n.val + 14)), ort (n.val + 14), 0)

/-- Who pays a duty, read off its token. -/
def payer (x : GSem nD τ sig × ℕ × ℕ) : Dev nD × Bool × ℕ :=
  match role x.1.2 with
  | .bar => (dst (x.2.2 == 1) x.1.1.1, x.2.2 == 1, 0)
  | .cred d => (dst d x.1.1.1, d, 100 + x.2.2)
  | .rcv d k => (snd d x.1.1.1, d, 200 + (4 * x.2.1 + k.val))
  | .snt d k => (x.1.1.1, d, 300 + (4 * x.2.1 + k.val))
  | .cpy d k => (x.1.1.1, d, 400 + oit k x.2.1)
  | .other => (x.1.1.1, false, 0)

/-- The number of a duty. -/
def code : Duty → ℕ
  | .inl _ => 0
  | .inr (.inl u) => 100 + u.val
  | .inr (.inr (.inl n)) => 200 + n.val
  | .inr (.inr (.inr (.inl n))) => 300 + n.val
  | .inr (.inr (.inr (.inr n))) => 400 + (n.val + 14)

theorem code_inj : Function.Injective code := by
  rintro (a | a | a | a | a) (b | b | b | b | b) h <;> simp only [code] at h <;> first
    | rfl
    | (have ha := a.isLt; have hb := b.isLt; exact absurd h (by omega))
    | (have ha := a.isLt; exact absurd h (by omega))
    | (have hb := b.isLt; exact absurd h (by omega))
    | (have : a = b := Fin.ext (by omega); rw [this])

theorem payer_tok (c : Dev nD) (d : Bool) (i : Duty) : payer (tokOf c d i) = (c, d, code i) := by
  rcases i with a | a | a | a | a
  · unfold payer tokOf; dsimp only; rw [role_bar]
    cases d <;> exact Prod.ext (dst_snd _ c) rfl
  · unfold payer tokOf; dsimp only; rw [role_cred]; exact Prod.ext (dst_snd d c) rfl
  · unfold payer tokOf; dsimp only; rw [role_rcv]
    refine Prod.ext (snd_dst d c) (Prod.ext rfl ?_)
    simp only [code]; omega
  · unfold payer tokOf; dsimp only; rw [role_snt]
    refine Prod.ext rfl (Prod.ext rfl ?_)
    simp only [code]; omega
  · unfold payer tokOf; dsimp only; rw [role_cpy]
    refine Prod.ext rfl (Prod.ext rfl ?_)
    revert a; simp only [code]; decide

/-- All tokens. -/
def tokE : Dev nD × Bool × Duty ↪ GSem nD τ sig × ℕ × ℕ :=
  ⟨fun x => tokOf x.1 x.2.1 x.2.2, fun x y h => by
    have h1 := congrArg payer h
    dsimp only at h1
    rw [payer_tok, payer_tok] at h1
    obtain ⟨c, d, i⟩ := x
    obtain ⟨c', d', i'⟩ := y
    simp only [Prod.mk.injEq] at h1
    obtain ⟨rfl, rfl, h2⟩ := h1
    rw [code_inj h2]⟩

def allToks : Finset (GSem nD τ sig × ℕ × ℕ) := Finset.univ.map tokE

/-- What a device may pay on a ring. -/
def ringToks (c : Dev nD) (d : Bool) : sProp 𝕄 :=
  iprop(dutyTok ER (bcell (snd d c)) 0 (if d then 1 else 0)
    ∗ bigSepL (List.range 29) (fun u => dutyTok ER (ccell (snd d c) d) 0 u)
    ∗ bigSepL (List.range 28) (fun n => dutyTok ER (rcell (dst d c) d (key n)) (n / 4) 0)
    ∗ bigSepL (List.range 28) (fun n => dutyTok ER (scell c d (key n)) (n / 4) 0)
    ∗ bigSepL (List.range 16) (fun n => dutyTok ER (ocell c d (key (n + 14))) (ort (n + 14)) 0))

theorem toks_deal : bigSep allToks (fun x => (dutyTok ER x.1 x.2.1 x.2.2 : sProp 𝕄))
    = bigSep Finset.univ fun c : Dev nD => bigSep Finset.univ fun d : Bool => ringToks (F := F) c d := by
  unfold allToks
  rw [bigSep_map, bigSep_univ_prod]
  refine bigSep_congr fun c _ => ?_
  rw [bigSep_univ_prod]
  refine bigSep_congr fun d _ => ?_
  unfold ringToks
  rw [bigSep_univ_sum, bigSep_univ_sum, bigSep_univ_sum, bigSep_univ_sum, ← chain_fin, ← chain_fin, ← chain_fin, ← chain_fin]
  rw [show (Finset.univ : Finset Unit) = {()} from rfl, bigSep_singleton]
  rfl

/-! ## Own semaphores -/

/-- The semaphores the kernel declares: three of each slot, and the credits of each ring. -/
abbrev Own : Type := ((Bool × Fin 4) × Fin 3) ⊕ Bool

def ownSem : Own → SemLoc sig
  | .inl (p, 0) => .dma (rsem p.1 p.2)
  | .inl (p, 1) => .dma (ssem p.1 p.2)
  | .inl (p, 2) => .dma (osem p.1 p.2)
  | .inr d => .reg (csem d)

theorem ownSem_inj : Function.Injective ownSem := by decide
theorem ownSem_bar : ∀ k, ownSem k ≠ .reg bsem := by decide
theorem own_facts : Pipeline.OwnSemFacts spec0 ownSem := by decide

/-- All a device's own semaphores. -/
def owned (c : Dev nD) (Φ : GSem nD τ sig → sProp 𝕄) : sProp 𝕄 := bigSep Finset.univ fun k : Own => Φ ((c : Thread nD τ), ownSem k)

theorem owned_eq (c : Dev nD) (Φ : GSem nD τ sig → sProp 𝕄) : owned (F := F) c Φ
    = iprop((bigSep Finset.univ fun p : Bool × Fin 4 => iprop(Φ (rcell c p.1 p.2) ∗ Φ (scell c p.1 p.2) ∗ Φ (ocell c p.1 p.2)))
      ∗ bigSep Finset.univ fun d : Bool => Φ (ccell c d)) := by
  unfold owned
  rw [bigSep_univ_sum, bigSep_univ_prod]
  refine congrArg₂ BI.sep (bigSep_congr fun p _ => ?_) rfl
  rw [show (Finset.univ : Finset (Fin 3)) = {0, 1, 2} from by decide, bigSep_insert (by decide), bigSep_insert (by decide), bigSep_singleton]
  rfl

def barE : Dev nD ↪ GSem nD τ sig := ⟨fun c => bcell c, fun _ _ h => congrArg (fun g : GSem nD τ sig => g.1.1) h⟩
def ownE : Dev nD × Own ↪ GSem nD τ sig :=
  ⟨fun x => ((x.1 : Thread nD τ), ownSem x.2), fun _ _ h =>
    Prod.ext (congrArg (fun g : GSem nD τ sig => g.1.1) h) (ownSem_inj (congrArg Prod.snd h))⟩

/-- The barrier of every device, and every other semaphore of every device. -/
def barCells : Finset (GSem nD τ sig) := Finset.univ.map barE
def ownCells : Finset (GSem nD τ sig) := Finset.univ.map ownE

theorem cells_disjoint : Disjoint barCells ownCells := by
  rw [Finset.disjoint_left]
  rintro g h1 h2
  obtain ⟨c, -, rfl⟩ := Finset.mem_map.mp h1
  obtain ⟨x, -, h⟩ := Finset.mem_map.mp h2
  exact ownSem_bar x.2 (congrArg Prod.snd h)

theorem bar_deal (Φ : GSem nD τ sig → sProp 𝕄) : bigSep barCells Φ = bigSep Finset.univ fun c : Dev nD => Φ (bcell c) := by
  unfold barCells; rw [bigSep_map]; rfl
theorem own_deal (Φ : GSem nD τ sig → sProp 𝕄) : bigSep ownCells Φ = bigSep Finset.univ fun c : Dev nD => owned (F := F) c Φ := by
  unfold ownCells; rw [bigSep_map, bigSep_univ_prod]; rfl

/-! ## Turns to write -/

/-- The turns a ring's writer has at its neighbour's slots. -/
def ringWrites (c : Dev nD) (d : Bool) : sProp 𝕄 :=
  bigSepL (List.range 28) (fun n => Release.writeTok EV ((dst d c, d, key n) : Key) (n / 4 + 1))

theorem turns_list {M : Type} [URA M] (Φ : Fin 4 → ℕ → sProp M) :
    bigSep (Finset.univ ×ˢ Finset.range 7) (fun x : Fin 4 × ℕ => Φ x.1 x.2) = bigSepL (List.range 28) fun n => Φ (key n) (n / 4) := by
  rw [← bigSepL_map (fun n => ((key n, n / 4) : Fin 4 × ℕ)) (List.range 28) (fun x => Φ x.1 x.2)]
  exact bigSep_eq_bigSepL_of_eq _ (by decide) (by decide) _

theorem prod_deal {M A B : Type} [URA M] [DecidableEq A] [DecidableEq B] (s : Finset A) (t : Finset B) (Φ : A × B → sProp M) :
    bigSep (s ×ˢ t) Φ = bigSep s fun a => bigSep t fun b => Φ (a, b) := by
  induction s using Finset.induction_on with
  | empty => rw [Finset.empty_product]; rfl
  | insert a s ha ih =>
    have hd : Disjoint (({a} : Finset A) ×ˢ t) (s ×ˢ t) := Finset.disjoint_product.mpr (.inl (Finset.disjoint_singleton_left.mpr ha))
    rw [bigSep_insert ha, Finset.insert_eq, Finset.union_product, BI.bigSep_union hd, ih, Finset.singleton_product, bigSep_map]
    rfl

theorem writes_deal : bigSep ((Finset.univ : Finset Key) ×ˢ Finset.range 7) (fun x => (Release.writeTok EV x.1 (x.2 + 1) : sProp 𝕄))
    = bigSep Finset.univ fun c : Dev nD => bigSep Finset.univ fun d : Bool => ringWrites (F := F) c d := by
  have h (d : Bool) : (bigSep Finset.univ fun c : Dev nD => bigSepL (List.range 28) fun n => (Release.writeTok EV ((c, d, key n) : Key) (n / 4 + 1) : sProp 𝕄))
      = bigSep Finset.univ fun c : Dev nD => ringWrites (F := F) c d := by
    rw [bigSep_univ_equiv (ringEquiv d)]; rfl
  rw [prod_deal, bigSep_univ_prod]
  have e (c : Dev nD) : (bigSep Finset.univ fun b : Bool × Fin 4 => bigSep (Finset.range 7) fun r => (Release.writeTok EV ((c, b) : Key) (r + 1) : sProp 𝕄))
      = iprop((bigSepL (List.range 28) fun n => (Release.writeTok EV ((c, false, key n) : Key) (n / 4 + 1) : sProp 𝕄))
        ∗ bigSepL (List.range 28) fun n => (Release.writeTok EV ((c, true, key n) : Key) (n / 4 + 1) : sProp 𝕄)) := by
    rw [bigSep_univ_prod, both, ← prod_deal Finset.univ (Finset.range 7) (fun x : Fin 4 × ℕ => (Release.writeTok EV ((c, false, x.1) : Key) (x.2 + 1) : sProp 𝕄)),
      ← prod_deal Finset.univ (Finset.range 7) (fun x : Fin 4 × ℕ => (Release.writeTok EV ((c, true, x.1) : Key) (x.2 + 1) : sProp 𝕄))]
    rw [turns_list (fun k r => (Release.writeTok EV ((c, false, k) : Key) (r + 1) : sProp 𝕄)), turns_list (fun k r => (Release.writeTok EV ((c, true, k) : Key) (r + 1) : sProp 𝕄))]
  rw [bigSep_congr fun c _ => e c, bigSep_sep', h false, h true, ← bigSep_sep']
  exact bigSep_congr fun c _ => (both (fun d => ringWrites (F := F) c d)).symm

end Cert.Proof

end
-- ==== Proof.Fund.lean ====
/-
  The ghost state of all devices, made at once and dealt out.
-/
module

public import proofs.«01_k».proof.Proof.Ghost

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem pairs {M I : Type} [URA M] [Fintype I] (Φ Ψ : I → sProp M) :
    iprop(bigSep Finset.univ Φ ∗ bigSep Finset.univ Ψ) ⊢ bigSep Finset.univ (fun c => iprop(Φ c ∗ Ψ c)) :=
  Entails.of_eq (bigSep_sep' Finset.univ Φ Ψ).symm

theorem owned_pairs (c : Dev nD) (Φ Ψ : GSem nD τ sig → sProp 𝕄) :
    iprop(owned c Φ ∗ owned c Ψ) ⊢ owned (F := F) c fun g => iprop(Φ g ∗ Ψ g) := pairs _ _

section

variable (X : Dev nD → Vec F S4096x512 .bf16) (Wt : Dev nD → Vec F S512x8192 .bf16) (κ : GSem nD τ sig → ℕ) (ιs : Key → ℕ)

/-- What every device may look up for ever. -/
def Recs : sProp 𝕄 := iprop(Ctx X Wt κ ιs ∗ Bars X Wt κ)

instance Recs_persistent : BI.Persistent (Recs X Wt κ ιs) := by unfold Recs; infer_instance

theorem Recs_own (c : Dev nD) (k : Own) : Recs X Wt κ ιs ⊢ cellInv ER (sched X Wt) (κ ((c : Thread nD τ), ownSem k)) ((c : Thread nD τ), ownSem k) := by
  unfold Recs
  iintro ⟨H, -⟩
  rcases k with ⟨p, i⟩ | d
  · fin_cases i
    · iapply (Ctx_r X Wt κ ιs c p.1 p.2) $$ H
    · iapply (Ctx_s X Wt κ ιs c p.1 p.2) $$ H
    · iapply (Ctx_o X Wt κ ιs c p.1 p.2) $$ H
  · iapply (Ctx_c X Wt κ ιs c d) $$ H

/-- What a device holds that no other has: `Φ` of each of its own semaphores, its place at the barrier, what it may pay,
    its turns as a reader and as a writer. -/
def Mine (Φ : GSem nD τ sig → sProp 𝕄) (c : Dev nD) : sProp 𝕄 :=
  iprop(owned c Φ ∗ atPos ER (bcell c) 0 ∅ 0 ∗ (bigSep Finset.univ fun d : Bool => ringToks (F := F) c d)
    ∗ (bigSep Finset.univ fun p : Bool × Fin 4 => Release.readerAt EV ((c, p) : Key) 0)
    ∗ bigSep Finset.univ fun d : Bool => ringWrites (F := F) c d)

/-- Before the kernel, the semaphores are not opened yet. -/
abbrev Shut (c : Dev nD) : sProp 𝕄 := Mine (F := F) (fun g => openTok ER g) c
/-- In the kernel, they are, at their first round. -/
abbrev Opened (c : Dev nD) : sProp 𝕄 := Mine (F := F) (fun g => iprop(atPos ER g 0 ∅ 0 ∗ reached ER g 0)) c

/-- The ghost state of the launch. -/
abbrev seedR : URounds (GSem nD τ sig) ℕ := launchOf barCells ownCells allToks
abbrev seedS : Release.USlots Key := Release.initSlots Finset.univ 7

theorem recs_of (h : GSem nD τ sig → sProp 𝕄) (hh : h = fun g => cellInv ER (sched X Wt) (κ g) g) [∀ g, BI.Persistent (h g)] :
    iprop(bigSep (barCells ∪ ownCells) h ∗ (bigSep barCells fun g => reached ER g 0)
      ∗ (bigSep Finset.univ fun q : Key => Release.slotInv EV (ιs q) q (landSlot (F := F) q.1 q.2.1 q.2.2)) ∗ levAts L lv) ⊢ Recs X Wt κ ιs := by
  subst hh
  have hb (c : Dev nD) : bigSep (barCells ∪ ownCells) (fun g => cellInv ER (sched X Wt) (κ g) g) ⊢ cellInv ER (sched X Wt) (κ (bcell c)) (bcell c) :=
    pick _ _ (Finset.mem_union_left _ (Finset.mem_map_of_mem barE (Finset.mem_univ c)))
  have ho (c : Dev nD) (k : Own) : bigSep (barCells ∪ ownCells) (fun g => cellInv ER (sched X Wt) (κ g) g)
      ⊢ cellInv ER (sched X Wt) (κ ((c : Thread nD τ), ownSem k)) ((c : Thread nD τ), ownSem k) :=
    pick _ _ (Finset.mem_union_right _ (Finset.mem_map_of_mem ownE (Finset.mem_univ (c, k))))
  have hr (c : Dev nD) : (bigSep barCells fun g => (reached ER g 0 : sProp 𝕄)) ⊢ reached ER (bcell c) 0 :=
    pick _ _ (Finset.mem_map_of_mem barE (Finset.mem_univ c))
  unfold Recs Ctx Bars
  iintro ⟨#HI, #HR, #HS, #HL⟩
  isplitr
  · isplitr
    · iapply (BI.bigSep_intro_persistent (R := iprop(bigSep (barCells ∪ ownCells) (fun g => cellInv ER (sched X Wt) (κ g) g)
          ∗ bigSep Finset.univ fun q : Key => Release.slotInv EV (ιs q) q (landSlot (F := F) q.1 q.2.1 q.2.2))) fun q _ => ?_)
      · iintro ⟨#HI, #HS⟩
        isplitr; · iapply (ho q.1 (.inl (q.2, 0))) $$ HI
        isplitr; · iapply (ho q.1 (.inl (q.2, 1))) $$ HI
        isplitr; · iapply (ho q.1 (.inl (q.2, 2))) $$ HI
        iapply (pickU (fun q : Key => Release.slotInv EV (ιs q) q (landSlot (F := F) q.1 q.2.1 q.2.2)) q) $$ HS
      isplitr; · iexact HI
      iexact HS
    isplitr
    · iapply (BI.bigSep_intro_persistent fun q _ => ho q.1 (.inr q.2)) $$ HI
    iexact HL
  iapply (BI.bigSep_intro_persistent (R := iprop(bigSep (barCells ∪ ownCells) (fun g => cellInv ER (sched X Wt) (κ g) g)
    ∗ bigSep barCells fun g => (reached ER g 0 : sProp 𝕄))) fun q _ => ?_)
  · iintro ⟨#HI, #HR⟩
    isplitr; · iapply (hb q) $$ HI
    iapply (hr q) $$ HR
  isplitr; · iexact HI
  iexact HR

/-- From the barriers' counters and the launch's ghost state: the records, and every device's own. -/
theorem fund_all : iprop((bigSep Finset.univ fun c : Dev nD => semVal (bcell c) 0) ∗ (BI.own (ER seedR) ∗ BI.own (EV seedS)) ∗ levAts L lv)
    ⊢ (|={Set.univ}=> ∃ κ ιs, Recs X Wt κ ιs ∗ bigSep Finset.univ fun c : Dev nD => Shut (F := F) c : sProp 𝕄) := by
  iintro ⟨Hv, ⟨HR, HS⟩, #HL⟩
  imod (Rounds.fund_launch ER (sched X Wt) cells_disjoint (fun g _ h => h) allToks) $$ [Hv HR] with ⟨%κ, -, #Hinv, #Hr, Hat, Hopen, Htok⟩
  · isplitl [Hv]
    · iapply (Entails.of_eq (bar_deal (F := F) (fun g => semVal g 0)).symm) $$ Hv
    · iexact HR
  imod (Release.slots_init EV (Finset.univ : Finset Key) 7 (fun q : Key => landSlot (F := F) q.1 q.2.1 q.2.2)) $$ HS with ⟨%ιs, -, #Hsl, Hrd, Hwr⟩
  imodintro
  iexists κ, ιs
  isplitr
  · iapply (recs_of X Wt κ ιs _ rfl)
    isplitr; · iexact Hinv
    isplitr; · iexact Hr
    isplitr; · iexact Hsl
    iexact HL
  unfold Shut Mine
  iapply pairs
  isplitl [Hopen]; · iapply (Entails.of_eq (own_deal (F := F) (fun g => openTok ER g))) $$ Hopen
  iapply pairs
  isplitl [Hat]; · iapply (Entails.of_eq (bar_deal (F := F) (fun g => atPos ER g 0 ∅ 0))) $$ Hat
  iapply pairs
  isplitl [Htok]; · iapply (Entails.of_eq (toks_deal (F := F))) $$ Htok
  iapply pairs
  isplitl [Hrd]; · iapply (Entails.of_eq (bigSep_univ_prod (fun q : Key => (Release.readerAt EV q 0 : sProp 𝕄)))) $$ Hrd
  iapply (Entails.of_eq (writes_deal (F := F))) $$ Hwr

/-- A change of all of a device's own semaphores. -/
theorem owned_upd (c : Dev nD) (R : sProp 𝕄) [BI.Persistent R] (Φ Ψ : GSem nD τ sig → sProp 𝕄)
    (h : ∀ k, iprop(R ∗ Φ ((c : Thread nD τ), ownSem k)) ⊢ |={Set.univ}=> Ψ ((c : Thread nD τ), ownSem k)) :
    iprop(R ∗ owned c Φ) ⊢ |={Set.univ}=> owned c Ψ :=
  (BI.bigSep_with_persistent (R := R) fun k _ => h k).trans (BI.bigSep_fupd _ _)

/-- The kernel's semaphores, at zero, are opened. -/
theorem open_all (c : Dev nD) : iprop(Recs X Wt κ ιs ∗ Shut (F := F) c ∗ Pipeline.ownSems0 ownSem c)
    ⊢ (|={Set.univ}=> Opened (F := F) c : sProp 𝕄) := by
  unfold Shut Opened Mine
  iintro ⟨#HR, ⟨Ho, Hrest⟩, Hz⟩
  imod (owned_upd c (Recs X Wt κ ιs) (fun g => iprop(openTok ER g ∗ semVal g 0)) (fun g => iprop(atPos ER g 0 ∅ 0 ∗ reached ER g 0)) fun k => ?_) $$ [Ho Hz] with H
  · iintro ⟨#HR, Ho, Hz⟩
    iapply (Rounds.cell_open ER (sched X Wt) (Set.mem_univ (κ ((c : Thread nD τ), ownSem k))))
    isplitr; · iapply (Recs_own X Wt κ ιs c k) $$ HR
    isplitl [Ho]; · iexact Ho
    iexact Hz
  · isplitr; · iexact HR
    iapply (owned_pairs c (fun g => openTok ER g) (fun g => semVal g 0))
    isplitl [Ho]; · iexact Ho
    iapply (show (Pipeline.ownSems0 ownSem c : sProp 𝕄) ⊢ owned c fun g => semVal g 0 from .rfl) $$ Hz
  imodintro
  isplitl [H]; · iexact H
  iexact Hrest

/-- A semaphore whose last round is over. -/
def Over (g : GSem nD τ sig) : sProp 𝕄 := iprop(∃ R, ⌜∀ r, R ≤ r → (sched (F := F) X Wt).duties g r = ∅⌝ ∗ atPos ER g R ∅ 0)

/-- Semaphores whose last round is over are at zero. -/
theorem close_all (c : Dev nD) : iprop(Recs X Wt κ ιs ∗ owned c (Over X Wt)) ⊢ (|={Set.univ}=> Pipeline.ownSems0 ownSem c : sProp 𝕄) :=
  owned_upd c (Recs X Wt κ ιs) (Over X Wt) (fun g => semVal g 0) fun k => by
    unfold Over
    iintro ⟨#HR, ⟨%R, %hR, Ha⟩⟩
    iapply (Rounds.cell_close ER (sched X Wt) (Set.mem_univ (κ ((c : Thread nD τ), ownSem k))) (fun h => h) hR)
    isplitr; · iapply (Recs_own X Wt κ ιs c k) $$ HR
    iexact Ha

theorem close_bar (c : Dev nD) : iprop(Recs X Wt κ ιs ∗ atPos ER (bcell c) 1 ∅ 0) ⊢ (|={Set.univ}=> semVal (bcell c) 0 : sProp 𝕄) := by
  unfold Recs
  iintro ⟨⟨-, #HB⟩, Ha⟩
  iapply (Rounds.cell_close ER (sched X Wt) (Set.mem_univ (κ (bcell c))) (fun h => h) (later_bar X Wt c))
  isplitr; · iapply (Bars_inv X Wt κ c) $$ HB
  iexact Ha

end

end Cert.Proof

end
-- ==== Proof.Buffers.lean ====
/-
  Cutting the buffers into slots and rows, and putting them together again.
-/
module

public import proofs.«01_k».proof.Proof.Fund

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Four slots -/

theorem slotRect_mem (k : Fin 4) (i : S2x2x128x8192.Idx) :
    i ∈ (slotRect k).set ↔ (i 0).val = k.val / 2 ∧ (i 1).val = k.val % 2 := by
  refine (slotRect k).mem_set.trans ?_
  constructor
  · intro h
    obtain ⟨j0, h0, e0⟩ := h 0
    obtain ⟨j1, h1, e1⟩ := h 1
    have h0 : j0 < 1 := h0
    have h1 : j1 < 1 := h1
    have e0 : (i 0).val = k.val / 2 + 1 * j0 := e0
    have e1 : (i 1).val = k.val % 2 + 1 * j1 := e1
    omega
  · rintro ⟨h0, h1⟩ a
    fin_cases a
    · exact ⟨0, Nat.one_pos, h0⟩
    · exact ⟨0, Nat.one_pos, h1⟩
    · exact ⟨(i 2).val, (i 2).isLt, by show (i 2).val = 0 + 1 * (i 2).val; omega⟩
    · exact ⟨(i 3).val, (i 3).isLt, by show (i 3).val = 0 + 1 * (i 3).val; omega⟩

theorem slots_apart (m : Memref sig .tc .vmem S2x2x128x8192 .bf16) (k k' : Fin 4) (h : k ≠ k') :
    Disjoint (slotM m k).view.set (slotM m k').view.set := by
  rw [← slot_set, ← slot_set]
  unfold Memref.access
  rw [View.set_slice, View.set_slice]
  refine (Finset.disjoint_map _).mpr (Finset.disjoint_left.mpr fun i h1 h2 => h ?_)
  obtain ⟨a, b⟩ := (slotRect_mem k i).mp h1
  obtain ⟨a', b'⟩ := (slotRect_mem k' i).mp h2
  exact Fin.ext (by omega)

theorem slots_cover (m : Memref sig .tc .vmem S2x2x128x8192 .bf16) :
    (Finset.univ : Finset (Fin 4)).biUnion (fun k => (slotM m k).view.set) = m.view.set := by
  ext i
  rw [Finset.mem_biUnion]
  constructor
  · rintro ⟨k, -, h⟩
    rw [← slot_set] at h
    exact View.set_slice_subset _ _ h
  · intro h
    rw [View.set, Finset.mem_map] at h
    obtain ⟨x, -, rfl⟩ := h
    have h0 : (x 0).val < 2 := (x 0).isLt
    have h1 : (x 1).val < 2 := (x 1).isLt
    refine ⟨⟨2 * (x 0).val + (x 1).val, by omega⟩, Finset.mem_univ _, ?_⟩
    rw [← slot_set]
    unfold Memref.access
    rw [View.set_slice]
    refine Finset.mem_map_of_mem _ ((slotRect_mem _ x).mpr ⟨?_, ?_⟩)
    · show (x 0).val = (2 * (x 0).val + (x 1).val) / 2; omega
    · show (x 1).val = (2 * (x 0).val + (x 1).val) % 2; omega

/-- The places of a slot in its buffer. -/
def slotSet (c : Dev nD) (m : Memref sig .tc .vmem S2x2x128x8192 .bf16) (k : Fin 4) : Finset (Idx (m.view.loc (c : Thread nD τ))) := (slotM m k).view.set

theorem slot_some (ℓ : Loc nD τ sig) (I : Finset (Idx ℓ)) (f : Buf (Elt F) ℓ) : (ℓ ↦[I]{fullShare} f : sProp 𝕄) ⊢ Release.slot ℓ I := by
  unfold Release.slot
  iintro H
  iexists f
  iexact H

theorem owns_some (c : Dev nD) {sp : Space} {s : Shape} (m : Memref sig .tc sp s .bf16) (Z : Vec F s .bf16) :
    (owns (c : Thread nD τ) m fullShare Z : sProp 𝕄) ⊢ iprop(∃ Z, owns (c : Thread nD τ) m fullShare Z) := by
  iintro H
  iexists Z
  iexact H

/-- A buffer as its slots. -/
theorem slots_cut (c : Dev nD) (m : Memref sig .tc .vmem S2x2x128x8192 .bf16) (f : Buf (Elt F) (m.view.loc (c : Thread nD τ))) :
    (m.view.loc (c : Thread nD τ) ↦[m.view.set]{fullShare} f : sProp 𝕄)
      ⊢ bigSep Finset.univ fun k : Fin 4 => Release.slot ((slotM m k).view.loc (c : Thread nD τ)) (slotM m k).view.set := by
  have h : (m.view.loc (c : Thread nD τ) ↦[Finset.univ.biUnion (slotSet c m)]{fullShare} f : sProp 𝕄)
      = bigSep Finset.univ fun k : Fin 4 => (m.view.loc (c : Thread nD τ) ↦[slotSet c m k]{fullShare} f : sProp 𝕄) :=
    pointsTo_biUnion Finset.univ (slotSet c m) fun t _ t' _ h => slots_apart m t t' h
  rw [show Finset.univ.biUnion (slotSet c m) = m.view.set from slots_cover m] at h
  exact (Entails.of_eq h).trans (bigSep_mono fun k _ => slot_some _ _ f)

/-- The slots as the buffer. -/
theorem slots_join (c : Dev nD) (m : Memref sig .tc .vmem S2x2x128x8192 .bf16) [∀ e, Nonempty (Elt F e)] :
    (bigSep Finset.univ fun k : Fin 4 => Release.slot ((slotM m k).view.loc (c : Thread nD τ)) (slotM m k).view.set)
      ⊢ (iprop(∃ f, m.view.loc (c : Thread nD τ) ↦[m.view.set]{fullShare} f) : sProp 𝕄) := by
  have h0 : (bigSep Finset.univ fun k : Fin 4 => Release.slot ((slotM m k).view.loc (c : Thread nD τ)) (slotM m k).view.set)
      ⊢ (iprop(∃ fs : Fin 4 → Buf (Elt F) (m.view.loc (c : Thread nD τ)), bigSep Finset.univ fun k : Fin 4 =>
          (m.view.loc (c : Thread nD τ) ↦[slotSet c m k]{fullShare} fs k)) : sProp 𝕄) :=
    BI.bigSep_exists_pi (Y := fun _ : Fin 4 => Buf (Elt F) (m.view.loc (c : Thread nD τ))) Finset.univ
      (fun k f => (m.view.loc (c : Thread nD τ) ↦[slotSet c m k]{fullShare} f : sProp 𝕄))
  refine h0.trans ?_
  iintro ⟨%fs, H⟩
  ihave H := (pointsTo_biUnion_join Finset.univ (slotSet c m) fs (fs 0) fun t _ t' _ h => slots_apart m t t' h) $$ H
  icases H with ⟨%g, -, H⟩
  iexists g
  rw [show m.view.set = Finset.univ.biUnion (slotSet c m) from (slots_cover m).symm]
  iexact H

/-! ## The rows of the result -/

/-- The ring that carries a row of the result. -/
def ringOf (row : ℕ) : Bool := decide (256 ≤ row % 512)

/-- The item of device `c` that is written to a row. -/
def itemOf (c : Dev nD) (row : ℕ) : ℕ :=
  14 + 2 * ((if ringOf row then row / 512 + 9 - c.val else c.val + 9 - row / 512) % 8) + row % 256 / 128

theorem itemOf_spec (c : Dev nD) (row : ℕ) (h : row < 4096) :
    14 ≤ itemOf c row ∧ itemOf c row < 30 ∧ orow (ringOf row) (ch (ringOf row) (itemOf c row / 2) c) (itemOf c row) ≤ row
      ∧ row < orow (ringOf row) (ch (ringOf row) (itemOf c row / 2) c) (itemOf c row) + 128 := by
  have hc : c.val < 8 := c.isLt
  unfold itemOf orow ch
  by_cases hr : 256 ≤ row % 512
  · have e : ringOf row = true := decide_eq_true hr
    simp only [e, if_true]
    omega
  · have e : ringOf row = false := decide_eq_false hr
    simp only [e, Bool.false_eq_true, if_false]
    omega

theorem itemOf_uniq (c : Dev nD) (row : ℕ) (d : Bool) (n : ℕ) (h14 : 14 ≤ n) (h30 : n < 30)
    (h1 : orow d (ch d (n / 2) c) n ≤ row) (h2 : row < orow d (ch d (n / 2) c) n + 128) : ringOf row = d ∧ itemOf c row = n := by
  have hc : c.val < 8 := c.isLt
  unfold orow ch at h1 h2
  cases d
  · simp only [Bool.false_eq_true, if_false] at h1 h2
    have e : ringOf row = false := decide_eq_false (by omega)
    refine ⟨e, ?_⟩
    unfold itemOf
    simp only [e, Bool.false_eq_true, if_false]
    omega
  · simp only [if_true] at h1 h2
    have e : ringOf row = true := decide_eq_true (by omega)
    refine ⟨e, ?_⟩
    unfold itemOf
    simp only [e, if_true]
    omega

/-- The rows written by the items of a device, one by one. -/
abbrev tile (c : Dev nD) (x : Bool × Fin 16) : Rect S4096x8192 :=
  Rect.unit (s := S4096x8192) ![orow x.1 (ch x.1 ((x.2.val + 14) / 2) c) (x.2.val + 14), 0] S128x8192.size (orow_inb x.1 ((x.2.val + 14) / 2) (x.2.val + 14) c)

theorem tile_mem (c : Dev nD) (x : Bool × Fin 16) (i : S4096x8192.Idx) :
    i ∈ (tile c x).set ↔ orow x.1 (ch x.1 ((x.2.val + 14) / 2) c) (x.2.val + 14) ≤ (i 0).val
      ∧ (i 0).val < orow x.1 (ch x.1 ((x.2.val + 14) / 2) c) (x.2.val + 14) + 128 := by
  refine (tile c x).mem_set.trans ?_
  constructor
  · intro h
    obtain ⟨j0, h0, e0⟩ := h 0
    have h0 : j0 < 128 := h0
    have e0 : (i 0).val = orow x.1 (ch x.1 ((x.2.val + 14) / 2) c) (x.2.val + 14) + 1 * j0 := e0
    omega
  · rintro ⟨h0, h1⟩ a
    fin_cases a
    · exact ⟨(i 0).val - orow x.1 (ch x.1 ((x.2.val + 14) / 2) c) (x.2.val + 14), by show _ < 128; omega,
        by show (i 0).val = orow x.1 (ch x.1 ((x.2.val + 14) / 2) c) (x.2.val + 14) + 1 * _; omega⟩
    · exact ⟨(i 1).val, (i 1).isLt, by show (i 1).val = 0 + 1 * (i 1).val; omega⟩

theorem tiles_apart (c : Dev nD) (x y : Bool × Fin 16) (h : x ≠ y) : Disjoint (tile c x).set (tile c y).set := by
  refine Finset.disjoint_left.mpr fun i h1 h2 => h ?_
  obtain ⟨a, b⟩ := (tile_mem c x i).mp h1
  obtain ⟨a', b'⟩ := (tile_mem c y i).mp h2
  have hx := itemOf_uniq c _ x.1 (x.2.val + 14) (by omega) (by have := x.2.isLt; omega) a b
  have hy := itemOf_uniq c _ y.1 (y.2.val + 14) (by omega) (by have := y.2.isLt; omega) a' b'
  exact Prod.ext (hx.1.symm.trans hy.1) (Fin.ext (by have := hx.2.symm.trans hy.2; omega))

theorem tiles_cover (c : Dev nD) : (Finset.univ : Finset (Bool × Fin 16)).biUnion (fun x => (tile c x).set) = Finset.univ := by
  refine Finset.eq_univ_iff_forall.mpr fun i => Finset.mem_biUnion.mpr ?_
  obtain ⟨h1, h2, h3, h4⟩ := itemOf_spec c (i 0).val (i 0).isLt
  refine ⟨(ringOf (i 0).val, ⟨itemOf c (i 0).val - 14, by omega⟩), Finset.mem_univ _, (tile_mem c _ i).mpr ?_⟩
  dsimp only
  rw [Nat.sub_add_cancel h1]
  exact ⟨h3, h4⟩

section

variable (X : Dev nD → Vec F S4096x512 .bf16) (Wt : Dev nD → Vec F S512x8192 .bf16)

/-- A place in a segment: the row within its segment, the same column. -/
def within (i : S4096x8192.Idx) : S128x8192.Idx
  | ⟨0, _⟩ => ⟨(i 0).val % 128, Nat.mod_lt _ (by decide)⟩
  | ⟨1, _⟩ => ⟨(i 1).val, (i 1).isLt⟩

/-- The result of device `c`. -/
def resOf (c : Dev nD) : Vec F S4096x8192 .bf16 := fun i => item X Wt c (ringOf (i 0).val) (itemOf c (i 0).val) (within i)

theorem resOf_tile (c : Dev nD) (x : Bool × Fin 16) (j : S128x8192.Idx) : resOf X Wt c ((tile c x).emb j) = item X Wt c x.1 (x.2.val + 14) j := by
  have hj : (j 0).val < 128 := (j 0).isLt
  have e0 : (((tile c x).emb j) 0).val = orow x.1 (ch x.1 ((x.2.val + 14) / 2) c) (x.2.val + 14) + 1 * (j 0).val := rfl
  have e1 : (((tile c x).emb j) 1).val = 0 + 1 * (j 1).val := rfl
  have hu := itemOf_uniq c (((tile c x).emb j) 0).val x.1 (x.2.val + 14) (by omega) (by have := x.2.isLt; omega) (by omega) (by omega)
  unfold resOf
  rw [hu.1, hu.2]
  congr 1
  funext a
  fin_cases a
  · refine Fin.ext ?_
    show (((tile c x).emb j) 0).val % 128 = (j 0).val
    rw [e0]
    unfold orow
    cases x.1 <;> simp only [Bool.false_eq_true, if_false, if_true] <;> omega
  · refine Fin.ext ?_
    show (((tile c x).emb j) 1).val = (j 1).val
    rw [e1]; omega

/-- The result buffer as the rows of the items. -/
theorem rows_cut (c : Dev nD) (f : Vec F S4096x8192 .bf16) :
    ((((c : Thread nD τ).loc (main_v2 : Ref sig .tc))) ↦{fullShare} f : sProp 𝕄)
      ⊢ bigSep Finset.univ fun d : Bool => bigSepL (List.range 16) fun n => iprop(∃ Z, owns (c : Thread nD τ) (outM c d (n + 14)) fullShare Z) := by
  have h := pointsTo_rects (Ix := ℕ) (Name := ℕ) (U := UU) (Lvl := ℕ) (c : Thread nD τ) (Memref.whole main_v2) fullShare (tile c) (fun _ _ => rfl) (tiles_apart c) (tiles_cover c) f
  rw [(Memref.isWhole_whole main_v2).set_eq_univ] at h
  refine (Entails.of_eq h).trans ?_
  rw [bigSep_univ_prod]
  refine bigSep_mono fun d _ => ?_
  rw [← chain_fin 16 (fun n => iprop(∃ Z, owns (c : Thread nD τ) (outM c d (n + 14)) fullShare Z))]
  exact bigSep_mono fun n _ => owns_some c _ _

theorem rows_at (c : Dev nD) (d : Bool) (n : Fin 16) :
    (owns (c : Thread nD τ) (outM c d (n.val + 14)) fullShare (item X Wt c d (n.val + 14)) : sProp 𝕄)
      ⊢ owns (c : Thread nD τ) ((Memref.whole main_v2).slice (tile c (d, n)) (fun _ => rfl)) fullShare
        (fun j => (Memref.whole main_v2).view.read (Elt F) (resOf X Wt c) ((tile c (d, n)).emb j)) :=
  Entails.of_eq (congrArg (fun f => (owns (c : Thread nD τ) (outM c d (n.val + 14)) fullShare f : sProp 𝕄))
    (funext fun j => (resOf_tile X Wt c (d, n) j).symm))

/-- The rows of the items, all written, as the result buffer. -/
theorem rows_join (c : Dev nD) :
    (bigSep Finset.univ fun d : Bool => bigSepL (List.range 16) fun n => owns (c : Thread nD τ) (outM c d (n + 14)) fullShare (item X Wt c d (n + 14)))
      ⊢ (((c : Thread nD τ).loc (main_v2 : Ref sig .tc)) ↦{fullShare} resOf X Wt c : sProp 𝕄) := by
  have h := pointsTo_rects (Ix := ℕ) (Name := ℕ) (U := UU) (Lvl := ℕ) (c : Thread nD τ) (Memref.whole main_v2) fullShare (tile c) (fun _ _ => rfl) (tiles_apart c) (tiles_cover c) (resOf X Wt c)
  rw [(Memref.isWhole_whole main_v2).set_eq_univ] at h
  refine BIBase.Entails.trans ?_ (Entails.of_eq h.symm)
  rw [bigSep_univ_prod]
  refine bigSep_mono fun d _ => ?_
  refine (Entails.of_eq (chain_fin 16 (fun n => (owns (c : Thread nD τ) (outM c d (n + 14)) fullShare (item X Wt c d (n + 14)) : sProp 𝕄))).symm).trans ?_
  exact bigSep_mono fun n _ => rows_at X Wt c d n

/-- The rows written from the slots of a ring, in the order of the items. -/
theorem rows_order {M : Type} [URA M] (Φ : ℕ → sProp M) :
    (bigSep Finset.univ fun k : Fin 4 => bigSep (Finset.range 4) fun r => Φ (oit k r)) = bigSepL (List.range 16) fun n => Φ (n + 14) := by
  rw [← prod_deal Finset.univ (Finset.range 4) (fun x : Fin 4 × ℕ => Φ (oit x.1 x.2)), ← bigSepL_map (fun n => n + 14) (List.range 16) Φ,
    bigSep_eq_bigSepL_of_eq ((List.range 16).map fun n => ((key (n + 14), ort (n + 14)) : Fin 4 × ℕ)) (by decide) (by decide) (fun x : Fin 4 × ℕ => Φ (oit x.1 x.2)), bigSepL_map, bigSepL_map]
  rfl

end

end Cert.Proof

end
-- ==== Proof.Enter.lean ====
/-
  A device's state at the start of the kernel, from what the launch hands it.
-/
module

public import proofs.«01_k».proof.Proof.Buffers

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section

variable (X : Dev nD → Vec F S4096x512 .bf16) (Wt : Dev nD → Vec F S512x8192 .bf16) (κ : GSem nD τ sig → ℕ) (ιs : Key → ℕ)

/-! ## Buffers -/

/-- A buffer of the kernel's own, contents not named. -/
abbrev Whole (c : Dev nD) (b : Ref sig .tc) : sProp 𝕄 := iprop(∃ f, (c : Thread nD τ).loc b ↦{fullShare} f)

/-- The four buffers of slots. -/
def Bufs (c : Dev nD) : sProp 𝕄 :=
  iprop(Whole (F := F) c cc0_scratch0 ∗ Whole (F := F) c cc0_scratch1 ∗ Whole (F := F) c cc0_scratch6 ∗ Whole (F := F) c cc0_scratch7)

/-- The slots of a buffer of slots. -/
def slotsOf (c : Dev nD) (m : Memref sig .tc .vmem S2x2x128x8192 .bf16) : sProp 𝕄 :=
  bigSep Finset.univ fun k : Fin 4 => Release.slot ((slotM m k).view.loc (c : Thread nD τ)) (slotM m k).view.set

theorem whole_cut (c : Dev nD) (b : Ref sig .tc) (hty : b.ty = ⟨S2x2x128x8192, .bf16⟩) (m : Memref sig .tc .vmem S2x2x128x8192 .bf16)
    (hm : m.IsWhole) (hb : m.view.ref = b) : Whole (F := F) c b ⊢ slotsOf (F := F) c m := by
  subst hb
  iintro ⟨%f, H⟩
  unfold slotsOf
  iapply (slots_cut c m f)
  rw [hm.set_eq_univ]
  iexact H

theorem whole_join (c : Dev nD) (b : Ref sig .tc) (m : Memref sig .tc .vmem S2x2x128x8192 .bf16) [∀ e, Nonempty (Elt F e)]
    (hm : m.IsWhole) (hb : m.view.ref = b) : slotsOf (F := F) c m ⊢ Whole (F := F) c b := by
  subst hb
  unfold slotsOf
  iintro H
  ihave H := (slots_join c m) $$ H
  rw [hm.set_eq_univ]
  iexact H

/-- The slots sent from, contents not named. -/
abbrev sendSlot (c : Dev nD) (d : Bool) (k : Fin 4) : sProp 𝕄 :=
  Release.slot ((slotM (sbuf d) k).view.loc (c : Thread nD τ)) (slotM (sbuf d) k).view.set

theorem sendSlot_open (c : Dev nD) (d : Bool) (k : Fin 4) :
    sendSlot (F := F) c d k ⊢ iprop(∃ Z, owns (c : Thread nD τ) (slotM (sbuf d) k) fullShare Z) := by
  unfold sendSlot Release.slot owns
  iintro ⟨%f, H⟩
  iexists _, f
  isplitr; · ipureintro; rfl
  iexact H

theorem sendSlot_of (c : Dev nD) (d : Bool) (k : Fin 4) (Z : FVec F S128x8192 .bf16) :
    owns (c : Thread nD τ) (slotM (sbuf d) k) fullShare Z ⊢ sendSlot (F := F) c d k := by
  unfold sendSlot Release.slot owns
  iintro ⟨%f, -, H⟩
  iexists f
  iexact H

/-! ## A slot at the start -/

/-- What a slot of a ring is made from. -/
def slotIn (c : Dev nD) (d : Bool) (k : Fin 4) : sProp 𝕄 :=
  iprop(((atPos ER (rcell c d k) 0 ∅ 0 ∗ reached ER (rcell c d k) 0) ∗ (atPos ER (scell c d k) 0 ∅ 0 ∗ reached ER (scell c d k) 0)
      ∗ (atPos ER (ocell c d k) 0 ∅ 0 ∗ reached ER (ocell c d k) 0))
    ∗ Release.readerAt EV ((c, d, k) : Key) 0 ∗ landSlot (F := F) c d k ∗ sendSlot (F := F) c d k)

theorem slot_start (c : Dev nD) (d : Bool) (k : Fin 4) : iprop(Ctx X Wt κ ιs ∗ slotIn (F := F) c d k)
    ⊢ (|={Set.univ}=> iprop(KS X Wt c d k ⟨0, 0, 0, 0, 0, 0, 0⟩ ∗ (reached ER (rcell c d k) 0 ∗ Release.released EV ((c, d, k) : Key) 1)) : sProp 𝕄) := by
  unfold slotIn
  dsimp only [KS, landed, sending, written]
  rw [if_neg (by decide), if_neg (by decide), if_pos rfl, Finset.range_zero]
  iintro ⟨#H1, ⟨⟨Hr, #Hrr⟩, ⟨Hs, #Hss⟩, Ho, #Hoo⟩, Hrd, Hl, Hb⟩
  imod (Release.slot_release EV (S := landSlot (F := F) c d k) (ι := ιs (c, d, k)) (k := ((c, d, k) : Key)) (Set.mem_univ _)
    (Release.slot_slot_false (slot_nonempty (rbuf d) k)) 0) $$ [Hl Hrd] with ⟨Hrd, #Hf⟩
  · isplitr; · iapply (Ctx_slot X Wt κ ιs c d k); iexact H1
    isplitl [Hrd]; · iexact Hrd
    iexact Hl
  imodintro
  isplitl [Hr Hs Ho Hb Hrd]
  · isplitl [Hr]; · iexact Hr
    isplitr; · iexact Hrr
    isplitl [Hrd]; · iexact Hrd
    isplitr; · iempintro
    isplitl [Hs]; · iexact Hs
    isplitr; · iexact Hss
    isplitl [Ho]; · iexact Ho
    isplitr; · iexact Hoo
    isplitl [Hb]; · iapply (sendSlot_open c d k) $$ Hb
    iempintro
  isplitr; · iexact Hrr
  iexact Hf

set_option maxRecDepth 100000 in
theorem ks_start (p : Bool × Fin 4) : ks trace p.1 p.2.val = ⟨0, 0, 0, 0, 0, 0, 0⟩ := by revert p; decide +kernel
set_option maxRecDepth 100000 in
theorem rs_start (d : Bool) : ys trace d = 0 ∧ zs trace d = 0 ∧ drd trace d = false := by revert d; decide +kernel

theorem slots_start (c : Dev nD) : iprop(Ctx X Wt κ ιs ∗ bigSep Finset.univ fun p : Bool × Fin 4 => slotIn (F := F) c p.1 p.2)
    ⊢ (|={Set.univ}=> iprop(KSall X Wt c trace ∗ bigSep Finset.univ fun d : Bool => slotFacts (F := F) c d) : sProp 𝕄) := by
  have h : iprop(Ctx X Wt κ ιs ∗ bigSep Finset.univ fun p : Bool × Fin 4 => slotIn (F := F) c p.1 p.2)
      ⊢ (|={Set.univ}=> bigSep Finset.univ fun p : Bool × Fin 4 => iprop(KS X Wt c p.1 p.2 (ks trace p.1 p.2.val)
        ∗ (reached ER (rcell c p.1 p.2) 0 ∗ Release.released EV ((c, p.1, p.2) : Key) 1)) : sProp 𝕄) :=
    (BI.bigSep_with_persistent (R := Ctx X Wt κ ιs) fun p _ => by rw [ks_start p]; exact slot_start X Wt κ ιs c p.1 p.2).trans (BI.bigSep_fupd _ _)
  rw [bigSep_sep', bigSep_univ_prod (fun p : Bool × Fin 4 => iprop(reached ER (rcell c p.1 p.2) 0 ∗ Release.released EV ((c, p.1, p.2) : Key) 1))] at h
  exact h

/-! ## Tokens -/

theorem range_succ_list : List.range 29 = 0 :: (List.range 28).map (· + 1) := by decide

theorem ring_toks (c : Dev nD) (d : Bool) :
    iprop(ringToks (F := F) c d ∗ ringWrites (F := F) c d ∗ ringCreds (F := F) c d
        ∗ bigSepL (List.range 16) (fun n => iprop(∃ Z, owns (c : Thread nD τ) (outM c d (n + 14)) fullShare Z)))
      ⊢ iprop((dutyTok ER (bcell (snd d c)) 0 (if d then 1 else 0) ∗ dutyTok ER (ccell (snd d c) d) 0 0) ∗ ringSep (Tok (F := F) c) d) := by
  unfold ringToks ringWrites ringCreds ringSep
  dsimp only [Tok]
  rw [range_succ_list, bigSepL_cons', bigSepL_map, chain_sep, chain_sep, chain_sep]
  iintro ⟨⟨Hb, ⟨H0, Hg⟩, Hr, Hs, Ho⟩, Hw, ⟨Cr, Cw, Cd⟩, Hrow⟩
  isplitl [Hb H0]
  · isplitl [Hb]; · iexact Hb
    iexact H0
  isplitl [Hr Hs Hw]
  · isplitl [Hs]; · iexact Hs
    isplitl [Hr]; · iexact Hr
    iexact Hw
  isplitl [Cr]; · iexact Cr
  isplitl [Hg]; · iexact Hg
  isplitl [Cw]; · iexact Cw
  isplitl [Cd]; · iexact Cd
  isplitl [Ho]; · iexact Ho
  iexact Hrow

theorem toks_start (c : Dev nD) :
    iprop((bigSep Finset.univ fun d : Bool => ringToks (F := F) c d) ∗ (bigSep Finset.univ fun d : Bool => ringWrites (F := F) c d)
        ∗ (bigSep Finset.univ fun d : Bool => ringCreds (F := F) c d)
        ∗ bigSep Finset.univ fun d : Bool => bigSepL (List.range 16) fun n => iprop(∃ Z, owns (c : Thread nD τ) (outM c d (n + 14)) fullShare Z))
      ⊢ iprop(((dutyTok ER (bcell (snd false c)) 0 0 ∗ dutyTok ER (bcell (snd true c)) 0 1)
        ∗ (dutyTok ER (ccell (snd false c) false) 0 0 ∗ dutyTok ER (ccell (snd true c) true) 0 0)) ∗ Toks0 (F := F) c trace) := by
  unfold Toks0
  rw [trace_sep (Tok (F := F) c) (fun op h => by cases op <;> first | rfl | cases h)]
  rw [← bigSep_sep', ← bigSep_sep', ← bigSep_sep']
  refine BIBase.Entails.trans (bigSep_mono fun d _ => ring_toks c d) ?_
  rw [bigSep_sep', both (fun d => iprop(dutyTok ER (bcell (snd d c)) 0 (if d then 1 else 0) ∗ dutyTok ER (ccell (snd d c) d) 0 0))]
  iintro ⟨⟨⟨H1, H2⟩, H3, H4⟩, H⟩
  isplitr [H]
  · isplitl [H1 H3]
    · isplitl [H1]; · iexact H1
      iexact H3
    isplitl [H2]; · iexact H2
    iexact H4
  iexact H

/-! ## The start -/

theorem cs_start (c : Dev nD) (d : Bool) : (atPos ER (ccell c d) 0 ∅ 0 : sProp 𝕄) ⊢ RS (F := F) c d (ys trace d) (zs trace d) (drd trace d) := by
  obtain ⟨h1, h2, h3⟩ := rs_start d
  rw [h1, h2, h3]
  unfold RS CS
  iintro H
  isplitl [H]
  · iexists ∅
    isplitr; · ipureintro; exact ⟨Finset.empty_subset _, by decide⟩
    isplitl [H]; · iexact H
    iempintro
  iempintro

variable (m0 : Memref sig .tc .vmem S4096x512 .bf16) (m1 : Memref sig .tc .vmem S512x8192 .bf16)

/-- What the launch hands a device in credits. -/
def Creds (c : Dev nD) : sProp 𝕄 := iprop((ringCreds (F := F) c false ∗ ringCreds (F := F) c true) ∗ cred (tallyAt (bcell c) 1 2))

theorem bufs_cut (c : Dev nD) : Bufs (F := F) c ⊢ iprop((bigSep Finset.univ fun p : Bool × Fin 4 => landSlot (F := F) c p.1 p.2)
    ∗ bigSep Finset.univ fun p : Bool × Fin 4 => sendSlot (F := F) c p.1 p.2) := by
  rw [bigSep_univ_prod, bigSep_univ_prod, both, both]
  show Bufs (F := F) c ⊢ iprop((slotsOf (F := F) c (rbuf false) ∗ slotsOf (F := F) c (rbuf true)) ∗ (slotsOf (F := F) c (sbuf false) ∗ slotsOf (F := F) c (sbuf true)))
  unfold Bufs
  iintro ⟨H0, H1, H6, H7⟩
  isplitl [H0 H6]
  · isplitl [H0]
    · iapply (whole_cut c cc0_scratch0 rfl (rbuf false) (Memref.isWhole_whole _) rfl) $$ H0
    · iapply (whole_cut c cc0_scratch6 rfl (rbuf true) (Memref.isWhole_whole _) rfl) $$ H6
  · isplitl [H1]
    · iapply (whole_cut c cc0_scratch1 rfl (sbuf false) (Memref.isWhole_whole _) rfl) $$ H1
    · iapply (whole_cut c cc0_scratch7 rfl (sbuf true) (Memref.isWhole_whole _) rfl) $$ H7

/-- From what is handed over to the start of the body. -/
theorem enter (c : Dev nD) (f : Vec F S4096x8192 .bf16) :
    iprop(Recs X Wt κ ιs ∗ Opened (F := F) c ∗ Creds (F := F) c ∗ Bufs (F := F) c ∗ (((c : Thread nD τ).loc main_v2) ↦{fullShare} f)
        ∗ (owns (c : Thread nD τ) m0 fullShare (X c) ∗ owns (c : Thread nD τ) m1 fullShare (Wt c)) ∗ ∃ W, owes (c : Thread nD τ) (owed c) W)
      ⊢ (|={Set.univ}=> Start X Wt κ ιs m0 m1 c : sProp 𝕄) := by
  unfold Opened Mine Creds
  rw [owned_eq]
  have hsep : iprop((bigSep Finset.univ fun p : Bool × Fin 4 => iprop((atPos ER (rcell c p.1 p.2) 0 ∅ 0 ∗ reached ER (rcell c p.1 p.2) 0)
        ∗ (atPos ER (scell c p.1 p.2) 0 ∅ 0 ∗ reached ER (scell c p.1 p.2) 0) ∗ (atPos ER (ocell c p.1 p.2) 0 ∅ 0 ∗ reached ER (ocell c p.1 p.2) 0)))
      ∗ (bigSep Finset.univ fun p : Bool × Fin 4 => Release.readerAt EV ((c, p) : Key) 0)
      ∗ (bigSep Finset.univ fun p : Bool × Fin 4 => landSlot (F := F) c p.1 p.2) ∗ bigSep Finset.univ fun p : Bool × Fin 4 => sendSlot (F := F) c p.1 p.2)
      ⊢ (bigSep Finset.univ fun p : Bool × Fin 4 => slotIn (F := F) c p.1 p.2 : sProp 𝕄) := by
    rw [← bigSep_sep', ← bigSep_sep', ← bigSep_sep']
    exact .rfl
  have hcred : (bigSep Finset.univ fun d : Bool => iprop(atPos ER (ccell c d) 0 ∅ 0 ∗ reached ER (ccell c d) 0))
      ⊢ (iprop(RSall (F := F) c trace ∗ bigSep Finset.univ fun d : Bool => reached ER (ccell c d) 0) : sProp 𝕄) := by
    have hm : (bigSep Finset.univ fun d : Bool => atPos ER (ccell c d) 0 ∅ 0) ⊢ (RSall (F := F) c trace : sProp 𝕄) := bigSep_mono fun d _ => cs_start c d
    rw [bigSep_sep']
    iintro ⟨H1, H2⟩
    isplitl [H1]
    · iapply hm $$ H1
    iexact H2
  unfold Recs
  iintro ⟨⟨#HC, #HB⟩, ⟨⟨Hk, Hc⟩, Hbar, Htok, Hrd, Hwr⟩, ⟨Hcr, Hcb⟩, Hbuf, Hrow, Hw, HO⟩
  ihave Hbuf := (bufs_cut c) $$ Hbuf
  icases Hbuf with ⟨Hl, Hs⟩
  ihave Hk := hsep $$ [Hk Hrd Hl Hs]
  · isplitl [Hk]; · iexact Hk
    isplitl [Hrd]; · iexact Hrd
    isplitl [Hl]; · iexact Hl
    iexact Hs
  imod (slots_start X Wt κ ιs c) $$ [Hk] with ⟨HK, Hf⟩
  · isplitr; · iexact HC
    iexact Hk
  ihave Hc := hcred $$ Hc
  icases Hc with ⟨HR, Hcc⟩
  ihave Hcr := (Entails.of_eq (both (fun d => ringCreds (F := F) c d)).symm) $$ Hcr
  ihave Hrow := (rows_cut c f) $$ Hrow
  ihave Ht := (toks_start c) $$ [Htok Hwr Hcr Hrow]
  · isplitl [Htok]; · iexact Htok
    isplitl [Hwr]; · iexact Hwr
    isplitl [Hcr]; · iexact Hcr
    iexact Hrow
  icases Ht with ⟨Hd, HT⟩
  imodintro
  unfold Start Opening
  isplitr
  · isplitr; · iexact HC
    iexact HB
  isplitl [HO]; · iexact HO
  isplitl [Hf Hcc Hbar Hcb Hd]
  · isplitl [Hf Hcc]
    · unfold Tell
      iapply pairs
      isplitl [Hf]; · iexact Hf
      iexact Hcc
    isplitl [Hbar Hcb]
    · isplitl [Hbar]; · iexact Hbar
      iexact Hcb
    iexact Hd
  isplitl [Hw]; · iexact Hw
  isplitl [HK]; · iexact HK
  isplitl [HR]; · iexact HR
  iexact HT

end

end Cert.Proof

end
-- ==== Proof.Leave.lean ====
/-
  What a device hands back at the end of the kernel.
-/
module

public import proofs.«01_k».proof.Proof.Enter

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section

variable (X : Dev nD → Vec F S4096x512 .bf16) (Wt : Dev nD → Vec F S512x8192 .bf16) (κ : GSem nD τ sig → ℕ) (ιs : Key → ℕ)

/-! ## A slot at the end -/

theorem over_of (g : GSem nD τ sig) (R : ℕ) (h : ∀ r, R ≤ r → (sched (F := F) X Wt).duties g r = ∅) :
    (atPos ER g R ∅ 0 : sProp 𝕄) ⊢ Over X Wt g := by
  unfold Over
  iintro H
  iexists R
  isplitr; · ipureintro; exact h
  iexact H

/-- What a slot of a ring leaves: its semaphores' rounds over, its two places, its rows written. -/
def slotOut (c : Dev nD) (d : Bool) (k : Fin 4) : sProp 𝕄 :=
  iprop((Over X Wt (rcell c d k) ∗ Over X Wt (scell c d k) ∗ Over X Wt (ocell c d k)) ∗ landSlot (F := F) c d k ∗ sendSlot (F := F) c d k
    ∗ bigSep (Finset.range 4) fun r => owns (c : Thread nD τ) (outM c d (oit k r)) fullShare (item X Wt c d (oit k r)))

theorem slot_end (c : Dev nD) (d : Bool) (k : Fin 4) (t : ℕ) (ht : t ≠ 0) : KS X Wt c d k ⟨7, 7, t, 7, 7, 4, 4⟩ ⊢ slotOut X Wt c d k := by
  unfold slotOut
  dsimp only [KS, landed, sending, written]
  rw [if_neg (by decide), if_pos rfl, if_neg ht, if_pos rfl, if_pos rfl]
  iintro ⟨Hr, -, -, Hl, Hs, -, Ho, -, ⟨H1, H2⟩, Hw⟩
  isplitl [Hr Hs Ho]
  · isplitl [Hr]; · iapply (over_of X Wt _ 7 (later_rcv X Wt c d k)) $$ Hr
    isplitl [Hs]; · iapply (over_of X Wt _ 7 (later_snt X Wt c d k)) $$ Hs
    iapply (over_of X Wt _ 4 (later_cpy X Wt c d k)) $$ Ho
  isplitl [Hl]; · iexact Hl
  isplitl [H1 H2]
  · iapply (sendSlot_of c d k)
    iapply (owns_halves (c : Thread nD τ) (slotM (sbuf d) k) fullShare _).2
    isplitl [H1]; · iexact H1
    iexact H2
  iexact Hw

theorem slots_end (c : Dev nD) : KSall X Wt c [] ⊢ bigSep Finset.univ fun p : Bool × Fin 4 => slotOut X Wt c p.1 p.2 :=
  bigSep_mono fun p _ => slot_end X Wt c p.1 p.2 _ (by revert p; decide)

theorem creds_end (c : Dev nD) : RSall (F := F) c [] ⊢ bigSep Finset.univ fun d : Bool => Over X Wt (ccell c d) :=
  bigSep_mono fun d _ => by
    have h : RS (F := F) c d (ys [] d) (zs [] d) (drd [] d) ⊢ Over X Wt (ccell c d) := by
      show iprop(atPos ER (ccell c d) 1 ∅ 0 ∗ bigSep (Finset.range (zs [] d)) (fact (F := F) c d)) ⊢ Over X Wt (ccell c d)
      iintro ⟨H, -⟩
      iapply (over_of X Wt _ 1 (later_cred X Wt c d)) $$ H
    exact h

theorem bufs_join (c : Dev nD) [∀ e, Nonempty (Elt F e)] : iprop((bigSep Finset.univ fun p : Bool × Fin 4 => landSlot (F := F) c p.1 p.2)
    ∗ bigSep Finset.univ fun p : Bool × Fin 4 => sendSlot (F := F) c p.1 p.2) ⊢ Bufs (F := F) c := by
  rw [bigSep_univ_prod, bigSep_univ_prod, both, both]
  show iprop((slotsOf (F := F) c (rbuf false) ∗ slotsOf (F := F) c (rbuf true)) ∗ (slotsOf (F := F) c (sbuf false) ∗ slotsOf (F := F) c (sbuf true))) ⊢ Bufs (F := F) c
  unfold Bufs
  iintro ⟨⟨H0, H6⟩, H1, H7⟩
  isplitl [H0]; · iapply (whole_join c cc0_scratch0 (rbuf false) (Memref.isWhole_whole _) rfl) $$ H0
  isplitl [H1]; · iapply (whole_join c cc0_scratch1 (sbuf false) (Memref.isWhole_whole _) rfl) $$ H1
  isplitl [H6]; · iapply (whole_join c cc0_scratch6 (rbuf true) (Memref.isWhole_whole _) rfl) $$ H6
  iapply (whole_join c cc0_scratch7 (sbuf true) (Memref.isWhole_whole _) rfl) $$ H7

theorem rows_all {M : Type} [URA M] (Φ : Bool → ℕ → sProp M) :
    (bigSep Finset.univ fun p : Bool × Fin 4 => bigSep (Finset.range 4) fun r => Φ p.1 (oit p.2 r))
      = bigSep Finset.univ fun d : Bool => bigSepL (List.range 16) fun n => Φ d (n + 14) := by
  rw [bigSep_univ_prod]
  exact bigSep_congr fun d _ => rows_order (Φ d)

theorem rows_end (c : Dev nD) (R : sProp 𝕄) (h : (bigSep Finset.univ fun d : Bool => bigSepL (List.range 16) fun n =>
      owns (c : Thread nD τ) (outM c d (n + 14)) fullShare (item X Wt c d (n + 14))) ⊢ R) : (bigSep Finset.univ fun p : Bool × Fin 4 => bigSep (Finset.range 4) fun r =>
      owns (c : Thread nD τ) (outM c p.1 (oit p.2 r)) fullShare (item X Wt c p.1 (oit p.2 r)))
    ⊢ R := by
  have e := rows_all fun d n => (owns (c : Thread nD τ) (outM c d n) fullShare (item X Wt c d n) : sProp 𝕄)
  rw [e]
  exact h

variable (m0 : Memref sig .tc .vmem S4096x512 .bf16) (m1 : Memref sig .tc .vmem S512x8192 .bf16)

/-- From the end of the body to what is handed back: the result in the result buffer, every semaphore at zero. -/
theorem leave (c : Dev nD) [∀ e, Nonempty (Elt F e)] : iprop(Bars X Wt κ ∗ St X Wt κ ιs m0 m1 c [])
    ⊢ (|={Set.univ}=> iprop(Bufs (F := F) c ∗ (((c : Thread nD τ).loc main_v2) ↦{fullShare} resOf X Wt c) ∗ Pipeline.ownSems0 ownSem c ∗ semVal (bcell c) 0
        ∗ (owns (c : Thread nD τ) m0 fullShare (X c) ∗ owns (c : Thread nD τ) m1 fullShare (Wt c)) ∗ ∃ W, owes (c : Thread nD τ) 0 W) : sProp 𝕄) := by
  have hk : KSall X Wt c [] ⊢ iprop((bigSep Finset.univ fun p : Bool × Fin 4 => iprop(Over X Wt (rcell c p.1 p.2) ∗ Over X Wt (scell c p.1 p.2) ∗ Over X Wt (ocell c p.1 p.2)))
      ∗ (bigSep Finset.univ fun p : Bool × Fin 4 => landSlot (F := F) c p.1 p.2) ∗ (bigSep Finset.univ fun p : Bool × Fin 4 => sendSlot (F := F) c p.1 p.2)
      ∗ bigSep Finset.univ fun p : Bool × Fin 4 => bigSep (Finset.range 4) fun r => owns (c : Thread nD τ) (outM c p.1 (oit p.2 r)) fullShare (item X Wt c p.1 (oit p.2 r))) := by
    rw [← bigSep_sep', ← bigSep_sep', ← bigSep_sep']
    exact slots_end X Wt c
  unfold St Toks
  iintro ⟨#HB, #HC, -, HO, Hw, HK, HR, -, Hbar⟩
  ihave HK := hk $$ HK
  icases HK with ⟨Hov, Hl, Hs, Hrow⟩
  ihave HR := (creds_end X Wt c) $$ HR
  imod (close_all X Wt κ ιs c) $$ [Hov HR] with Hsem
  · isplitr
    · unfold Recs
      isplitr; · iexact HC
      iexact HB
    rw [owned_eq]
    isplitl [Hov]; · iexact Hov
    iexact HR
  imod (close_bar X Wt κ ιs c) $$ [Hbar] with Hbar
  · isplitr
    · unfold Recs
      isplitr; · iexact HC
      iexact HB
    iexact Hbar
  imodintro
  isplitl [Hl Hs]
  · iapply (bufs_join c)
    isplitl [Hl]; · iexact Hl
    iexact Hs
  isplitl [Hrow]; · iapply (rows_end X Wt c _ (rows_join X Wt c)) $$ Hrow
  isplitl [Hsem]; · iexact Hsem
  isplitl [Hbar]; · iexact Hbar
  isplitl [Hw]; · iexact Hw
  iexact HO

end

end Cert.Proof

end
-- ==== Proof.Body.lean ====
/-
  The kernel's body on one device: what it takes and what it gives back.
-/
module

public import proofs.«01_k».proof.Proof.Leave

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section

variable (X : Dev nD → Vec F S4096x512 .bf16) (Wt : Dev nD → Vec F S512x8192 .bf16)

/-- The protocol's part of a device before the region: the records, and its semaphores' rights not yet opened. -/
def Asleep (c : Dev nD) : sProp 𝕄 := iprop((∃ κ ιs, Recs X Wt κ ιs ∗ Shut (F := F) c) ∗ Creds (F := F) c)
/-- The same once the region's own semaphores are at hand. -/
def Awake (c : Dev nD) : sProp 𝕄 := iprop((∃ κ ιs, Recs X Wt κ ιs ∗ Opened (F := F) c) ∗ Creds (F := F) c)

theorem wake (c : Dev nD) : iprop(Asleep X Wt c ∗ Pipeline.ownSems0 ownSem c ∗ levAts L lv) ⊢ (|={Set.univ}=> Awake X Wt c : sProp 𝕄) := by
  unfold Asleep Awake
  iintro ⟨⟨⟨%κ, %ιs, #HR, Hs⟩, Hc⟩, Ho, -⟩
  imod (open_all X Wt κ ιs c) $$ [Hs Ho] with H
  · isplitr; · iexact HR
    isplitl [Hs]; · iexact Hs
    iexact Ho
  imodintro
  isplitl [H]
  · iexists κ, ιs
    isplitr; · iexact HR
    iexact H
  iexact Hc

variable (m0 : Memref sig .tc .vmem S4096x512 .bf16) (h0 : m0.IsWhole) (m1 : Memref sig .tc .vmem S512x8192 .bf16) (h1 : m1.IsWhole) (c : Dev nD)

/-- The two operands in their staging buffers. -/
abbrev Operands : sProp 𝕄 := iprop(owns (c : Thread nD τ) m0 fullShare (X c) ∗ owns (c : Thread nD τ) m1 fullShare (Wt c))

/-- What the body hands back. -/
def After : sProp 𝕄 :=
  iprop(Bufs (F := F) c ∗ (((c : Thread nD τ).loc main_v2) ↦{fullShare} resOf X Wt c) ∗ Pipeline.ownSems0 ownSem c ∗ semVal (bcell c) 0
    ∗ Operands X Wt m0 m1 c ∗ ∃ W, owes (c : Thread nD τ) 0 W)

theorem body_run [∀ e, Nonempty (Elt F e)] (f : Buf (Elt F) ((c : Thread nD τ).loc main_v2)) :
    iprop(Awake X Wt c ∗ Bufs (F := F) c ∗ (((c : Thread nD τ).loc main_v2) ↦{fullShare} f) ∗ Operands X Wt m0 m1 c ∗ (∃ W, owes (c : Thread nD τ) (owed c) W))
      ⊢ wp frame (wpE (defs₀ (F := F)) 𝒱₀ (c : Thread nD τ) none) Set.univ
        (cc0_body (F := F) m0 h0 m1 h1 (Memref.whole main_v2) (Memref.isWhole_whole _) (Memref.whole main_v2) (Memref.isWhole_whole _)
          (Memref.whole cc0_scratch0) (Memref.isWhole_whole _) (Memref.whole cc0_scratch1) (Memref.isWhole_whole _) cc0_scratch2 cc0_scratch3 cc0_scratch4 cc0_scratch5
          (Memref.whole cc0_scratch6) (Memref.isWhole_whole _) (Memref.whole cc0_scratch7) (Memref.isWhole_whole _) cc0_scratch8 cc0_scratch9 cc0_scratch10 cc0_scratch11)
        fun _ => After X Wt m0 m1 c := by
  unfold Awake
  iintro ⟨⟨⟨%κ, %ιs, #HR, Ho⟩, Hc⟩, Hb, Hy, Hw, HO⟩
  have hl : St X Wt κ ιs m0 m1 c [] ⊢ (|={Set.univ}=> iprop(Bars X Wt κ -∗ |={Set.univ}=> After X Wt m0 m1 c) : sProp 𝕄) := by
    iintro H
    imodintro
    iintro HB
    unfold After
    iapply (leave X Wt κ ιs m0 m1 c)
    isplitl [HB]; · iexact HB
    iexact H
  have hw := walk X Wt κ ιs m0 h0 m1 h1 c (fun _ => iprop(Bars X Wt κ -∗ |={Set.univ}=> After X Wt m0 m1 c)) hl
  unfold Open at hw
  imod (enter X Wt κ ιs m0 m1 c f) $$ [Ho Hc Hb Hy Hw HO] with HS
  · isplitr; · iexact HR
    isplitl [Ho]; · iexact Ho
    isplitl [Hc]; · iexact Hc
    isplitl [Hb]; · iexact Hb
    isplitl [Hy]; · iexact Hy
    isplitl [Hw]; · iexact Hw
    iexact HO
  iapply (wp_fupd frame _)
  iapply (wp_wand_r frame _)
  isplitl [HS]
  · iapply hw $$ HS
  iintro %a H
  iapply H
  unfold Recs
  icases HR with ⟨-, HB⟩
  iexact HB

end

end Cert.Proof

end
-- ==== Proof.Region.lean ====
/-
  The kernel's region: the data of its pipeline, its body's obligation, what it takes and leaves.
-/
module

public import proofs.«01_k».proof.Proof.Body
public import proofs.«01_k».proof.Proof.Gen.KernelIdeal.Frame
public import Idealize.ShloMosaic.Lib.Pipeline.RegionTalk

@[expose] public section

set_option maxRecDepth 16384

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

open Idealize.ShloMosaic.Pipeline (Dat BodyObligation)

section

variable (m : (ℓ : Loc nD τ sig) → Buf (Elt F) ℓ)

/-! ## Contents -/

/-- The two arguments of a device, as launched. -/
def xs (c : Dev nD) : Vec F S4096x512 .bf16 := m ((c : Thread nD τ).loc main_arg0)
def ws (c : Dev nD) : Vec F S512x8192 .bf16 := m ((c : Thread nD τ).loc main_arg1)

/-- What a device's buffers hold at launch, before the region, after it. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v2) (resOf (xs m) (ws m) c)

theorem V₂_out (c : Dev nD) : V₂ m c main_v2 = resOf (xs m) (ws m) c := Function.update_self ..
theorem V₂_ne (c : Dev nD) (b : DevRef τ sig) (h : b ≠ Proc.devRef .tc main_v2) : V₂ m c b = V₁ m c b := Function.update_of_ne h ..

/-- The one block of each window is its whole array. -/
theorem iblk_x (c : Dev nD) (t : Fin cfg0.N) : iblk m c 0 t = xs m c := by
  funext i
  show V m c main_arg0 _ = _
  rw [V_main_arg0]
  exact congrArg (m ((c : Thread nD τ).loc main_arg0)) (by funext a; apply Fin.ext; show 0 * _ + 1 * (i a).val = (i a).val; rw [Nat.zero_mul, Nat.zero_add, Nat.one_mul])
theorem iblk_w (c : Dev nD) (t : Fin cfg0.N) : iblk m c 1 t = ws m c := by
  funext i
  show V m c main_arg1 _ = _
  rw [V_main_arg1]
  exact congrArg (m ((c : Thread nD τ).loc main_arg1)) (by funext a; apply Fin.ext; show 0 * _ + 1 * (i a).val = (i a).val; rw [Nat.zero_mul, Nat.zero_add, Nat.one_mul])

/-! ## The pipeline's data -/

/-- The result buffer, alone. -/
def Hs : Finset (DevRef τ sig) := {Proc.devRef .tc main_v2}
/-- The buffers of @main that no window stages. -/
def Sr : Finset (DevRef τ sig) := Pipeline.ucRefs τ sig \ Pipeline.arrRefs (τ := τ) spec0

theorem held_out (c : Dev nD) (W : Valuation τ sig (Elt F)) :
    (StableHlo.held (c : Thread nD τ) Hs W : sProp 𝕄) = (((c : Thread nD τ).loc main_v2) ↦{fullShare} W main_v2) := by
  unfold StableHlo.held Hs
  exact bigSep_singleton

/-- A device before the body and after it, beside its operands and what it owes. -/
def Before (c : Dev nD) : sProp 𝕄 :=
  iprop(Bufs (F := F) c ∗ (∃ r, prngReg c r) ∗ StableHlo.held (c : Thread nD τ) Hs (V₁ m c) ∗ Awake (xs m) (ws m) c)
def Behind (c : Dev nD) : sProp 𝕄 :=
  iprop(Bufs (F := F) c ∗ (∃ r, prngReg c r) ∗ StableHlo.held (c : Thread nD τ) Hs (V₂ m c) ∗ Pipeline.ownSems0 ownSem c ∗ semVal (bcell c) 0)

def dat0 (c : Dev nD) : Dat τ (Elt F) ℕ ℕ UU ℕ cfg0 c where
  A w := V m c (Pipeline.arrRef spec0 w)
  after w _ := match w with
    | 0 => xs m c
    | 1 => ws m c
  Φ t := if t.val = 0 then Before m c else Behind m c
  q _ := fullShare
  owed t := if t.val = 0 then owed c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c := fun _ => dat0 m

theorem before_x (c : Dev nD) (t : Fin cfg0.N) (d) : (dat0 m c).before 0 t d = xs m c :=
  ((dat0 m c).before_in_eq_fetched 0 rfl (fun _ => rfl) (fun _ _ _ => rfl) (fun t => (iblk_x m c t).symm) t d).trans
    ((by unfold Dat.fetched Dat.blockOf dat0 iblk; rfl : _ = iblk m c 0 t).trans (iblk_x m c t))
theorem before_w (c : Dev nD) (t : Fin cfg0.N) (d) : (dat0 m c).before 1 t d = ws m c :=
  ((dat0 m c).before_in_eq_fetched 1 rfl (fun _ => rfl) (fun _ _ _ => rfl) (fun t => (iblk_w m c t).symm) t d).trans
    ((by unfold Dat.fetched Dat.blockOf dat0 iblk; rfl : _ = iblk m c 1 t).trans (iblk_w m c t))

theorem owed_zero (c : Dev nD) : (pdats (F := F) m 0 c).owed 0 = owed c := by
  show (if ((0 : Fin (cfg0.N + 1)).val = 0) then owed c else 0) = owed c; exact if_pos rfl
theorem owed_first (c : Dev nD) : (dat0 (F := F) m c).owed t0_0.castSucc = owed c := by
  show (if (t0_0.castSucc : Fin (cfg0.N + 1)).val = 0 then owed c else 0) = owed c; exact if_pos rfl
theorem owed_last (c : Dev nD) : (pdats (F := F) m 0 c).owed (Fin.last _) = 0 := by
  show (if (Fin.last cfg0.N).val = 0 then owed c else 0) = 0
  rw [Fin.val_last, if_neg (by rw [show cfg0.N = 1 from N_0]; decide)]

/-- What a device owes, in the pipeline's words and back. -/
theorem owes_in (c : Dev nD) (t : Fin (cfg0.N + 1)) (O : CellTallies nD τ sig ℕ) (h : (dat0 m c).owed t = O) :
    iprop(∃ W, owes (c : Thread nD τ) O W) ⊢ ((dat0 m c).owesAt 0 t : sProp 𝕄) := by
  unfold Dat.owesAt Pipeline.owesWithin Dat.bound
  rw [h]
  iintro ⟨%W, H⟩
  iexists W
  isplitr; · ipureintro; exact fun _ _ => Or.inl trivial
  iexact H
theorem owes_out (c : Dev nD) (t : Fin (cfg0.N + 1)) (O : CellTallies nD τ sig ℕ) (h : (dat0 m c).owed t = O) :
    ((dat0 m c).owesAt 0 t : sProp 𝕄) ⊢ iprop(∃ W, owes (c : Thread nD τ) O W) := by
  unfold Dat.owesAt Pipeline.owesWithin
  rw [h]
  iintro ⟨%W, -, H⟩
  iexists W
  iexact H

theorem body_at (t : Fin cfg0.N) : defs₀ (F := F) .tc cfg0.body (cfg0.bodyArgs t (cfg0.slots t)) = bodyAt0 t := rfl

theorem body0 [∀ e, Nonempty (Elt F e)] (c : Dev nD) : BodyObligation (dat0 (F := F) m c) defs₀ 𝒱₀ 0 Set.univ := fun t => by
  obtain rfl := fin_N0 t
  rw [bigSep_W0, bigSep_W0]
  rw [show (dat0 m c).Φ t0_0.castSucc = Before m c from rfl, show (dat0 m c).Φ t0_0.succ = Behind m c from rfl, body_at]
  have h : iprop(Before m c ∗ (dat0 m c).owesAt 0 t0_0.castSucc
      ∗ (∃ d, owns (c : Thread nD τ) (win0_0.stage (cfg0.slots t0_0 0)) fullShare ((dat0 m c).before 0 t0_0 d))
      ∗ (∃ d, owns (c : Thread nD τ) (win0_1.stage (cfg0.slots t0_0 1)) fullShare ((dat0 m c).before 1 t0_0 d)))
    ⊢ wp frame (wpE (defs₀ (F := F)) 𝒱₀ (c : Thread nD τ) none) Set.univ (bodyAt0 t0_0) fun _ =>
      iprop(Behind m c ∗ (dat0 m c).owesAt 0 t0_0.succ
        ∗ owns (c : Thread nD τ) (win0_0.stage (cfg0.slots t0_0 0)) fullShare (xs m c)
        ∗ owns (c : Thread nD τ) (win0_1.stage (cfg0.slots t0_0 1)) fullShare (ws m c)) := by
   unfold Before
   rw [held_out]
   iintro ⟨⟨Hb, Hp, Hy, HA⟩, HO, ⟨%d0, H0⟩, ⟨%d1, H1⟩⟩
   rw [before_x, before_w]
   ihave HO := (owes_out m c _ (owed c) (owed_first m c)) $$ HO
   iapply (wp_wand_r frame _)
   isplitl [Hb Hy HA HO H0 H1]
   · iapply (body_run (xs m) (ws m) (win0_0.stage (cfg0.slots t0_0 0)) (hstage0_0 0) (win0_1.stage (cfg0.slots t0_0 1)) (hstage0_1 0) c (V₁ m c main_v2))
     isplitl [HA]; · iexact HA
     isplitl [Hb]; · iexact Hb
     isplitl [Hy]; · iexact Hy
     isplitr [HO]
     · isplitl [H0]; · iexact H0
       iexact H1
     iexact HO
   iintro %a H
   unfold After Behind
   rw [held_out, V₂_out]
   icases H with ⟨Hb, Hy, Hs, Hz, ⟨H0, H1⟩, HO⟩
   isplitl [Hb Hp Hy Hs Hz]
   · isplitl [Hb]; · iexact Hb
     isplitl [Hp]; · iexact Hp
     isplitl [Hy]; · iexact Hy
     isplitl [Hs]; · iexact Hs
     iexact Hz
   isplitl [HO]; · iapply (owes_in m c t0_0.succ 0 (owed_last m c)) $$ HO
   isplitl [H0]; · iexact H0
   iexact H1
  generalize bodyAt0 (F := F) t0_0 = p at h ⊢
  refine BIBase.Entails.trans ?_ (BIBase.Entails.trans h (wp_mono frame _ _ fun _ => ?_))
  · dsimp only; exact .rfl
  · dsimp only; exact .rfl

end

end Cert.Proof

end
-- ==== Proof.Run.lean ====
/-
  The whole program on eight devices: launch, host operations, region, end.
-/
module

public import proofs.«01_k».proof.Proof.Region

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

open Idealize.ShloMosaic.Pipeline (Dat BodyObligation)

section

variable (m : (ℓ : Loc nD τ sig) → Buf (Elt F) ℓ) (ρ : Dev nD → PrngReg)

/-! ## The region -/

/-- Whatever a device owes lies above the level its staging copies wait at. -/
theorem owed_above (c : Dev nD) (g : GSem nD τ sig) (i : ℕ) (h : 0 < owed c g i) : i ∈ L g ∧ 0 < lv g i := by
  have one {x : Dev nD} {sm : SemLoc sig} {j k : ℕ} (hj : 0 < j) (hj' : j < 65) (h : 0 < (tallyAt ((x : Thread nD τ), sm) j k : CellTallies nD τ sig ℕ) g i) : i ∈ L g ∧ 0 < lv g i := by
    obtain ⟨rfl, rfl⟩ := tallyAt_pos h
    rw [L_tc]
    exact ⟨Finset.mem_range.mpr hj', hj⟩
  unfold owed at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨h1, h2, h3⟩ := dues_pos c 1 trace above_trace g i h
          exact ⟨by rw [show L g = Finset.range 65 from if_pos h1]; exact Finset.mem_range.mpr (by omega), Nat.lt_trans Nat.zero_lt_one h2⟩
        · exact one (by decide) (by decide) h
      · exact one (by decide) (by decide) h
    · exact one (by decide) (by decide) h
  · exact one (by decide) (by decide) h

theorem owed_cut (c : Dev nD) (t : Fin ((Pipeline.pin (pcfgs (F := F)) adm 0).N + 1)) (g : GSem nD τ sig) (i : ℕ)
    (h : 0 < (pdats (F := F) m 0 c).owed t g i) : i ∈ L g ∧ 0 < lv g i := by
  have e : (pdats (F := F) m 0 c).owed t = if t.val = 0 then owed c else 0 := rfl
  rw [e] at h
  split at h
  · exact owed_above c g i h
  · exact absurd h (Nat.lt_irrefl 0)

theorem region_in (c : Dev nD) : iprop(Pipeline.scopedRest (Pipeline.pin (pcfgs (F := F)) adm 0).spec c ∗ (∃ r, prngReg c r)
    ∗ StableHlo.held (c.tc : Thread nD τ) Hs (V₁ m c) ∗ Awake (xs m) (ws m) c) ⊢ (pdats m 0 c).Φ 0 := by
  rw [show (pdats m 0 c).Φ 0 = Before m c from rfl,
    show (Pipeline.scopedRest (Ix := ℕ) (Name := ℕ) (U := UU) (Lvl := ℕ) (Val := Elt F) (Pipeline.pin (pcfgs (F := F)) adm 0).spec c : sProp 𝕄) = Bufs (F := F) c from scopedRest0_eq c]
  unfold Before
  exact .rfl

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V₂ m c) ∗ Pipeline.ownSems0 ownSem c ∗ semVal (bcell c) 0) := by
  rw [show (pdats m 0 c).Φ (Fin.last _) = Behind m c from rfl,
    show (Pipeline.scopedRest (Ix := ℕ) (Name := ℕ) (U := UU) (Lvl := ℕ) (Val := Elt F) (Pipeline.pin (pcfgs (F := F)) adm 0).spec c : sProp 𝕄) = Bufs (F := F) c from scopedRest0_eq c]
  unfold Behind
  exact .rfl

theorem Hs_sub : Hs ⊆ Sr := by decide

theorem arr_ne (w : Fin 2) : (Proc.devRef .tc (Pipeline.arrRef spec0 w) : DevRef τ sig) ≠ Proc.devRef .tc main_v2 := by revert w; decide

theorem ins : ∀ w : Fin 2, (cfg0.win w).isOut = false := fun | 0 => rfl | 1 => rfl
theorem whole_share (c : Dev nD) (w : Fin 2) : (dat0 m c).share w = fullShare := by
  unfold Dat.share
  split <;> rfl

set_option backward.isDefEq.respectTransparency.types false in
/-- The region: it owes the protocol's dues on entry and nothing at the end. -/
def reg0 [∀ e, Nonempty (Elt F e)] : Pipeline.RegionSeg (pcfgs (F := F)) adm (pdats m) 0 defs₀ 𝒱₀ L lv 0 :=
  Pipeline.RegionSeg.ofTalk (pcfgs (F := F)) adm (pdats m) 0 defs₀ 𝒱₀ L lv 0 ownSem own_facts
    Hs Sr Hs_sub launch0.toP rfl (fun c => (body0 m c).loose)
    (fun _ => 0) owed (fun c => (owed_zero m c).trans (zero_add _).symm) (owed_last m) (fun _ => rfl) (whole_share m)
    (V₁ m) (V₂ m) (fun c b hb => V₂_ne m c b fun h => (Finset.mem_sdiff.mp hb).2 (h ▸ Finset.mem_singleton_self _))
    (Asleep (xs m) (ws m)) (fun c => semVal (bcell c) 0) (Awake (xs m) (ws m)) (fun c => semVal (bcell c) 0)
    (wake (xs m) (ws m)) (region_in m) (region_out m)
    (fun c => by iintro H; imodintro; iexact H)
    (fun _ => 0)
    ⟨fun c w s => by rw [L_tc]; exact Finset.mem_range.mpr (by decide), fun _ _ _ => le_refl _, fun c t g i h => owed_cut m c t g i h⟩
    (fun _ => iprop(emp))
    (fun _ _ => rfl) (fun c w => (Dat.arrAt_in (dat0 m c) w (ins w) _).trans (V₂_ne m c _ (arr_ne w)).symm)

/-! ## The host operations before it -/

/-- What a device carries beside its buffers up to the region. -/
def Carry (c : Dev nD) : sProp 𝕄 := iprop((∃ r, prngReg c r) ∗ Asleep (xs m) (ws m) c ∗ ∃ W, owes (c : Thread nD τ) (owed c) W)

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (Carry m)

theorem held_cut (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) := by
  exact StableHlo.held_sub_split (c : Thread nD τ) (by decide) W

def segs [∀ e, Nonempty (Elt F e)] : List (Pipeline.Seg (pcfgs (F := F)) adm (pdats m) 0 defs₀ 𝒱₀ L lv) := [.host (seg0 m), .region (reg0 m)]

theorem main_eq [∀ e, Nonempty (Elt F e)] (c : Dev nD) : main (F := F) c = Pipeline.Seg.run (segs m) :=
  main_segs adm (pdats m) 0 𝒱₀ L lv (seg0 m) (reg0 m) rfl c

theorem reg_pre [∀ e, Nonempty (Elt F e)] (c : Dev nD) :
    iprop(StableHlo.held (c : Thread nD τ) (Pipeline.ucRefs τ sig) (V₁ m c) ∗ Carry m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Asleep (xs m) (ws m) c ∗ ∃ Wd, owes (c : Thread nD τ) (0 + owed c) Wd)
  rw [held_cut, zero_add]
  unfold Carry
  iintro ⟨⟨Ha, Hr⟩, Hp, HA, HO⟩
  isplitl [Ha]; · iexact Ha
  isplitl [Hp]; · iexact Hp
  isplitl [Hr]
  · isplitl [Hr]; · iexact Hr
    iempintro
  isplitl [HA]; · iexact HA
  iexact HO

/-- A device at the end. -/
def Final (c : Dev nD) : sProp 𝕄 := iprop(StableHlo.held (c : Thread nD τ) (Pipeline.ucRefs τ sig) (V₂ m c) ∗ semVal (bcell c) 0)

theorem reg_post [∀ e, Nonempty (Elt F e)] (c : Dev nD) :
    ((reg0 m).post c : sProp 𝕄) ⊢ iprop(Final m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ semVal (bcell c) 0 ∗ ∃ Wd, owes (c : Thread nD τ) (0 : CellTallies nD τ sig ℕ) Wd) ⊢ _
  unfold Final
  rw [held_cut]
  iintro ⟨Ha, -, ⟨Hr, -⟩, Hb, HO⟩
  isplitr [HO]
  · isplitr [Hb]
    · isplitl [Ha]; · iexact Ha
      iexact Hr
    iexact Hb
  iexact HO

end

end Cert.Proof

end
-- ==== Proof.Launch.lean ====
/-
  The run of the whole program from any memory with its counters at zero.
-/
module

public import proofs.«01_k».proof.Proof.Run

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section

variable (m : (ℓ : Loc nD τ sig) → Buf (Elt F) ℓ) (ρ : Dev nD → PrngReg)

/-! ## The ghost state at launch -/

/-- The pipeline's part, then the protocol's two. -/
def u₀ : UU :=
  (initOf (Pipeline.cells (Pipeline.pin (pcfgs (F := F)) adm) cellOf_inj) (Pipeline.launchToks (Pipeline.pin (pcfgs (F := F)) adm) cellOf_inj), (seedR, seedS))

/-- The protocol's two parts. -/
def Seeds : sProp 𝕄 := iprop(BI.own (ER seedR) ∗ BI.own (EV seedS))

/-- Both wait on device 0 until the devices' shares are dealt. -/
def G (c : Dev nD) : sProp 𝕄 := if c = 0 then Seeds else iprop(emp)

theorem G_all : bigSep Finset.univ (G (F := F)) = Seeds := by
  have h : bigSep ((Finset.univ : Finset (Dev nD)).erase 0) (G (F := F)) = bigSep ((Finset.univ : Finset (Dev nD)).erase 0) fun _ => (BI.emp : sProp 𝕄) :=
    bigSep_congr fun c hc => by unfold G; rw [if_neg (Finset.ne_of_mem_erase hc)]; rfl
  rw [bigSep_univ_at _ (0 : Dev nD), h, BI.bigSep_emp_const]
  unfold G
  rw [if_pos rfl]
  exact BI.equiv_iff.mp sep_emp

theorem bars_zero (c : Dev nD) : (unscopedSems0 c : sProp 𝕄) = semVal (bcell c) 0 := by
  unfold unscopedSems0
  rw [show (Finset.univ.filter fun sm : SemLoc sig => ¬ sm.isScoped .tc) = {SemLoc.reg bsem} from by decide, BI.bigSep_singleton]

/-- What a device holds at launch beside the protocol's ghost state. -/
def Plain (c : Dev nD) : sProp 𝕄 :=
  iprop(StableHlo.held (c : Thread nD τ) (Pipeline.ucRefs τ sig) (V₀ m c) ∗ (∃ r, prngReg c r) ∗ Creds (F := F) c ∗ ∃ W, owes (c : Thread nD τ) (owed c) W)

/-- A device before the host operations. -/
def First (c : Dev nD) : sProp 𝕄 := iprop(StableHlo.held (c : Thread nD τ) (Pipeline.ucRefs τ sig) (V₀ m c) ∗ Carry m c)

theorem first_of (κ : GSem nD τ sig → ℕ) (ιs : Key → ℕ) (c : Dev nD) :
    iprop(Recs (xs m) (ws m) κ ιs ∗ (Shut (F := F) c ∗ Plain m c)) ⊢ First m c := by
  unfold Plain First Carry Asleep
  iintro ⟨#HR, Hs, Hh, Hp, Hc, HO⟩
  isplitl [Hh]; · iexact Hh
  isplitl [Hp]; · iexact Hp
  isplitr [HO]
  · isplitl [Hs]
    · iexists κ, ιs
      isplitr; · iexact HR
      iexact Hs
    iexact Hc
  iexact HO

/-- From what the launch deals to every device's first state. -/
theorem start_all :
    iprop((bigSep Finset.univ fun c : Dev nD => iprop(unscopedBufs c (fun b => m ((c : Thread nD τ).loc b)) ∗ unscopedSems0 c
        ∗ owes (c : Thread nD τ) (owed c) ∅ ∗ Pipeline.launchCred owed c ∗ prngReg c (ρ c) ∗ G c)) ∗ levAts L lv)
      ⊢ (|={Set.univ}=> bigSep Finset.univ (First m) : sProp 𝕄) := by
  have one (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop((semVal (bcell c) 0 ∗ G c) ∗ Plain m c) : sProp 𝕄) := by
    rw [show unscopedBufs c (fun b => m ((c : Thread nD τ).loc b)) = StableHlo.held (c : Thread nD τ) (Pipeline.ucRefs τ sig) (V₀ m c) from
      Pipeline.unscopedBufs_held c (V₀ m c), bars_zero]
    unfold Plain Creds
    iintro ⟨Hh, Hb, HO, Hcr, Hp, HG⟩
    ihave Hc := (launch_creds (F := F) c) $$ Hcr
    isplitl [Hb HG]
    · isplitl [Hb]; · iexact Hb
      iexact HG
    isplitl [Hh]; · iexact Hh
    isplitl [Hp]; · iexists (ρ c); iexact Hp
    isplitl [Hc]; · iexact Hc
    iexists ∅; iexact HO
  have all : (bigSep Finset.univ fun c : Dev nD => iprop(unscopedBufs c (fun b => m ((c : Thread nD τ).loc b)) ∗ unscopedSems0 c
        ∗ owes (c : Thread nD τ) (owed c) ∅ ∗ Pipeline.launchCred owed c ∗ prngReg c (ρ c) ∗ G c))
      ⊢ (iprop(((bigSep Finset.univ fun c : Dev nD => semVal (bcell c) 0) ∗ Seeds) ∗ bigSep Finset.univ (Plain m)) : sProp 𝕄) := by
    rw [← G_all, ← bigSep_sep', ← bigSep_sep']
    exact bigSep_mono fun c _ => one c
  have deal (κ : GSem nD τ sig → ℕ) (ιs : Key → ℕ) :
      iprop(Recs (xs m) (ws m) κ ιs ∗ bigSep Finset.univ fun c : Dev nD => iprop(Shut (F := F) c ∗ Plain m c)) ⊢ (bigSep Finset.univ (First m) : sProp 𝕄) :=
    BI.bigSep_with_persistent (R := Recs (xs m) (ws m) κ ιs) fun c _ => first_of m κ ιs c
  iintro ⟨H, #HL⟩
  ihave H := all $$ H
  icases H with ⟨⟨Hb, HS⟩, HP⟩
  imod (fund_all (xs m) (ws m)) $$ [Hb HS] with ⟨%κ, %ιs, #HR, Hs⟩
  · isplitl [Hb]; · iexact Hb
    isplitl [HS]; · unfold Seeds; iexact HS
    iexact HL
  imodintro
  iapply (deal κ ιs)
  isplitr; · iexact HR
  iapply pairs
  isplitl [Hs]; · iexact Hs
  iexact HP

/-! ## The end -/

/-- The buffers read at the end, and the rest. -/
theorem held_ends (c : Dev nD) (W : Valuation τ sig (Elt F)) : (StableHlo.held (c : Thread nD τ) (Pipeline.ucRefs τ sig) W : sProp 𝕄)
    = iprop((((c : Thread nD τ).loc main_arg0) ↦{fullShare} W main_arg0) ∗ (((c : Thread nD τ).loc main_arg1) ↦{fullShare} W main_arg1)
      ∗ (((c : Thread nD τ).loc main_v2) ↦{fullShare} W main_v2) ∗ (((c : Thread nD τ).loc main_cst) ↦{fullShare} W main_cst)
      ∗ (((c : Thread nD τ).loc main_v1) ↦{fullShare} W main_v1)) := by
  unfold StableHlo.held
  rw [bigSep_eq_bigSepL_of_eq [Proc.devRef .tc main_arg0, Proc.devRef .tc main_arg1, Proc.devRef .tc main_v2, Proc.devRef .tc main_cst, Proc.devRef .tc main_v1]
    (by decide) (by decide)]
  rfl

theorem V₂_x (c : Dev nD) : V₂ m c main_arg0 = m ((c : Thread nD τ).loc main_arg0) :=
  (V₂_ne m c _ (by decide)).trans (V_main_arg0 m c)
theorem V₂_w (c : Dev nD) : V₂ m c main_arg1 = m ((c : Thread nD τ).loc main_arg1) :=
  (V₂_ne m c _ (by decide)).trans (V_main_arg1 m c)

theorem unscoped_bar : ∀ sm : SemLoc sig, sm.isScoped .tc = false → sm = .reg bsem := by decide

set_option backward.isDefEq.respectTransparency.types false in
/-- The run: it ends; every device's result is as the protocol says, its arguments as launched, every counter at zero. -/
theorem run_main [∀ e, Nonempty (Elt F e)] : θ_run defs (onTc (τ := τ) (main (F := F))) (s₀ m ρ)
    (fun r => (∀ c : Dev nD, r.2.mem ((c : Thread nD τ).loc main_v2) = resOf (xs m) (ws m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed) (hL := L_of_ne) (G := G) (u₀ := u₀ (F := F))
    (hu₀ := by
      rw [G_all]
      unfold u₀ Seeds
      iintro Hu
      ihave H := (ownU_pair _ _) $$ Hu
      icases H with ⟨HP, HX⟩
      ihave HX := (own_pair_emb embR _ _) $$ HX
      imodintro
      isplitl [HP]; · iexact HP
      iexact HX)
    (T₀ := First m) (Tₙ := Final m)
    (hch := ⟨fun c => .rfl, fun c => reg_pre m c, fun c => reg_post m c⟩)
    (hinit := start_all m ρ)
    (QY := fun c s => (s.mem ((c : Thread nD τ).loc main_v2) = resOf (xs m) (ws m) c
        ∧ s.mem ((c : Thread nD τ).loc main_arg0) = m ((c : Thread nD τ).loc main_arg0)
        ∧ s.mem ((c : Thread nD τ).loc main_arg1) = m ((c : Thread nD τ).loc main_arg1)) ∧ s.sem (bcell c) = 0)
    (hfin := fun c s' => by
      unfold Final
      rw [held_ends, V₂_x, V₂_w, V₂_out]
      iintro ⟨⟨⟨Hx, Hw, Hy, -⟩, Hb⟩, HSI⟩
      icombine HSI Hx gives %hx
      icombine HSI Hw gives %hw
      icombine HSI Hy gives %hy
      icombine HSI Hb gives %hb
      imodintro
      isplitr
      · ipureintro
        exact ⟨⟨Buf.eq_of_forall_mem_univ hy, Buf.eq_of_forall_mem_univ hx, Buf.eq_of_forall_mem_univ hw⟩, by simpa using hb⟩
      iexact HSI)
    (hQ := fun s h hs => ⟨fun c => (h c).1, sem_eq_zero hs fun c sm hsm => by
      obtain rfl := unscoped_bar sm hsm
      exact (h c).2⟩)

end

end Cert.Proof

end
-- ==== Proof.Same.lean ====
/-
  The kernel as it is read at its float words and as it is read over the extended reals are one text: their bodies, and so
  their tables of bodies, are equal.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The bodies are equal; -/
theorem body_same : Cert.Kernel.cc0_body (F := F) = Cert.KernelIdeal.cc0_body (F := F) := rfl

/-- so what a label of the kernel runs is the same; -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) ?_
  funext l a
  match l, a with
  | 0, (t, s) =>
    dsimp only
    rw [body_same]
  | ⟨_ + 1, h⟩, _ => exact absurd h (by omega)

/-- and so is what a label of the whole program runs. -/
theorem defs_same : Cert.Kernel.defs (F := F) = Cert.KernelIdeal.defs (F := F) := by
  unfold Cert.Kernel.defs Cert.KernelIdeal.defs
  rw [bodies_same]
  rfl

end Cert.Proof

end
-- ==== Proof.Value.lean ====
/-
  What the result holds over the extended reals. A partial product is a dot product of a row of `x` with a column of `w` over
  one device's 512 columns of `x`; the partial sums going around a ring add these up over all devices; the epilogue is
  taken once, where the sum is complete, and what is passed on afterwards is that value unchanged. So every entry of every
  device's result is the epilogue of the sum over all devices, whichever ring carried it and whichever device it is read on.
-/
module

public import proofs.«01_k».proof.Proof.Buffers
public import Idealize.ShloMosaic.Lib.MatmulPlain
public import Idealize.ShloMosaic.Lib.KernelVsHost
public import Idealize.ShloMosaic.Lib.Pipeline.Value

@[expose] public section

noncomputable section

namespace Cert.Proof

open Idealize.ShloMosaic Idealize.ShloMosaic.ValueIdx
open Cert.KernelIdeal Cert.KernelIdeal.Gen
open scoped BigOperators

/-! ## Sums along a ring -/

section Sums

variable {M : Type} [AddCommMonoid M] (d : Bool) (f : Dev nD → M)

/-- The sum of a device's value and of those of the `t` devices before it on a ring, as it is collected. -/
def along : ℕ → Dev nD → M
  | 0, c => f c
  | t + 1, c => f c + along t (snd d c)

theorem along_eq (t : ℕ) (c : Dev nD) : along d f t c = ∑ j ∈ Finset.range (t + 1), f ((snd d)^[j] c) := by
  induction t generalizing c with
  | zero => simp [along]
  | succ t ih =>
    rw [along, ih, Finset.sum_range_succ' _ (t + 1), add_comm]
    rfl

/-- Seven steps back along a ring, from any device, meet every device once. -/
theorem back_bijective (c : Dev nD) : Function.Bijective fun j : Fin 8 => (snd d)^[j.val] c := by
  revert c d; decide

/-- After seven steps the sum is over all devices. -/
theorem along_all (c : Dev nD) : along d f 7 c = ∑ e, f e := by
  rw [along_eq, Finset.sum_range]
  exact (back_bijective d c).sum_comp f

end Sums

/-! ## Products and segments at an index -/

variable (X : Dev nD → Vec Ideal S4096x512 .bf16) (Wt : Dev nD → Vec Ideal S512x8192 .bf16)

/-- Row `R` of device `e`'s block of `x` times a column of its block of `w`. -/
def dotOf (R : Fin 4096) (col : Fin 8192) (e : Dev nD) : EReal := ∑ k : Fin 512, X e (ix2 R k) * Wt e (ix2 k col)

theorem prodOf_at (x : Vec Ideal S256x512 .bf16) (w : Vec Ideal S512x8192 .bf16) (r : Fin 256) (col : Fin 8192) :
    prodOf x w (ix2 r col) = ∑ k : Fin 512, x (ix2 r k) * w (ix2 k col) := by
  unfold prodOf
  rw [shapeCast_self, shapeCast_self]
  refine (Ideal.matmul_plain_apply (φ₁ := .bf16) (φ₂ := .bf16) none x w (constant (F := Ideal) S256x8192 .f32 0x00000000#32) r col).trans ?_
  show Ideal.ofBits .f32 0x00000000#32 + _ = _
  rw [Ideal.ofBits_zero_f32, zero_add]

/-- Row `r` of segment `g` of a product is its row `128 · (g % 2) + r`. -/
theorem segOf_at (g : ℕ) (p : FVec Ideal S256x8192 .bf16) (r : Fin 128) (col : Fin 8192) (q : Fin 256) (hq : q.val = 128 * (g % 2) + r.val) :
    segOf g p (ix2 r col) = p (ix2 q col) := by
  unfold segOf
  split
  · refine congrArg p (funext fun a => ?_)
    fin_cases a
    · exact Fin.ext (by show 0 + r.val = q.val; omega)
    · exact Fin.ext (by show 0 + col.val = col.val; omega)
  · refine congrArg p (funext fun a => ?_)
    fin_cases a
    · exact Fin.ext (by show 128 + r.val = q.val; omega)
    · exact Fin.ext (by show 0 + col.val = col.val; omega)

/-- A segment of the product of step `t`, at an index. -/
theorem part_at (d : Bool) (g t : ℕ) (c : Dev nD) (r : Fin 128) (col : Fin 8192) (R : Fin 4096) (hR : R.val = orow d (ch d t c) g + r.val) :
    segOf g (part X Wt c d t) (ix2 r col) = dotOf X Wt R col c := by
  rw [segOf_at g _ r col ⟨128 * (g % 2) + r.val, by have := r.isLt; omega⟩ rfl]
  unfold part
  rw [prodOf_at]
  unfold dotOf
  refine Finset.sum_congr rfl fun k _ => ?_
  congr 1
  unfold xt
  refine congrArg (X c) (funext fun a => ?_)
  fin_cases a
  · refine Fin.ext ?_
    show xrow d (ch d t c) + 1 * (128 * (g % 2) + r.val) = R.val
    rw [hR]; unfold xrow orow; omega
  · refine Fin.ext ?_
    show 0 + 1 * k.val = k.val
    omega

/-! ## The epilogue -/

/-- The epilogue of one value: `y / 2 · (1 + tanh (c · (y + a · y³)))`, with the constants the words of the programs name. -/
def epi (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

theorem geluOf_at (v : FVec Ideal S128x8192 .bf16) (i : S128x8192.Idx) : geluOf v i = epi (v i) := by
  unfold epi
  rw [← mul_assoc (Ideal.ofBits .f32 0x3D372713#32), ← mul_assoc (Ideal.ofBits .f32 0x3D372713#32)]
  rfl

/-! ## Items at an index -/

/-- Up to step 6 a slot holds the partial sum collected so far, of the rows its chunk names. -/
theorem itv_sum (d : Bool) (g : ℕ) (r : Fin 128) (col : Fin 8192) (R : Fin 4096) (t : ℕ) (ht : t ≤ 6) (c : Dev nD)
    (hR : R.val = orow d (ch d t c) g + r.val) : itv X Wt d g t c (ix2 r col) = along d (dotOf X Wt R col) t c := by
  induction t generalizing c with
  | zero =>
    unfold itv along
    exact part_at X Wt d g 0 c r col R hR
  | succ t ih =>
    unfold itv along
    rw [if_pos (by omega)]
    have e : addf (segOf g (part X Wt c d (t + 1))) (itv X Wt d g t (snd d c)) (ix2 r col)
        = segOf g (part X Wt c d (t + 1)) (ix2 r col) + itv X Wt d g t (snd d c) (ix2 r col) := rfl
    rw [e, part_at X Wt d g (t + 1) c r col R hR, ih (by omega) (snd d c) (by rw [hR, ch_succ])]

/-- From step 7 on it holds the epilogue of the sum over all devices. -/
theorem itv_epi (d : Bool) (g : ℕ) (r : Fin 128) (col : Fin 8192) (R : Fin 4096) (t : ℕ) (ht : 7 ≤ t) (c : Dev nD)
    (hR : R.val = orow d (ch d t c) g + r.val) : itv X Wt d g t c (ix2 r col) = epi (∑ e, dotOf X Wt R col e) := by
  induction t, ht using Nat.le_induction generalizing c with
  | base =>
    rw [itv.eq_2, if_neg (lt_irrefl 6), if_pos rfl, geluOf_at, ← along_all d _ c, along]
    have e : addf (segOf g (part X Wt c d (6 + 1))) (itv X Wt d g 6 (snd d c)) (ix2 r col)
        = segOf g (part X Wt c d (6 + 1)) (ix2 r col) + itv X Wt d g 6 (snd d c) (ix2 r col) := rfl
    rw [e, part_at X Wt d g (6 + 1) c r col R hR, itv_sum X Wt d g r col R 6 le_rfl (snd d c) (by rw [hR, ← ch_succ])]
  | succ t ht ih =>
    unfold itv
    rw [if_neg (by omega), if_neg (by omega)]
    exact ih (snd d c) (by rw [hR, ch_succ])

/-- Every entry of a device's result is the epilogue of the sum over all devices. -/
theorem resOf_at (c : Dev nD) (R : Fin 4096) (col : Fin 8192) : resOf X Wt c (ix2 R col) = epi (∑ e, dotOf X Wt R col e) := by
  obtain ⟨h1, h2, h3, h4⟩ := itemOf_spec c R.val R.isLt
  have hr : R.val % 128 < 128 := Nat.mod_lt _ (by decide)
  have e : within (ix2 R col) = ix2 (⟨R.val % 128, hr⟩ : Fin 128) col := by
    funext a
    fin_cases a <;> rfl
  unfold resOf item
  rw [e]
  refine itv_epi X Wt _ _ _ _ _ _ (by show 7 ≤ itemOf c R.val / 2; omega) c ?_
  show R.val = orow (ringOf R.val) (ch (ringOf R.val) (itemOf c R.val / 2) c) (itemOf c R.val % 2) + R.val % 128
  generalize ringOf R.val = b at h3 h4 ⊢
  generalize itemOf c R.val = n at h1 h2 h3 h4 ⊢
  unfold orow at h3 h4 ⊢
  cases b <;> simp only [Bool.false_eq_true, if_false, if_true] at h3 h4 ⊢ <;> omega

end Cert.Proof

end
-- ==== Proof.Reference.lean ====
/-
  What the reference's result holds over the extended reals: at every entry the epilogue of the dot product of a row of the
  whole `x` with a column of the whole `w`, over all 4096 columns of `x`.
-/
module

public import proofs.«01_k».proof.Proof.Value
public import proofs.«01_k».proof.Proof.Gen.ReferenceIdeal.Run
public import Idealize.ShloMosaic.Lib.StackMember

@[expose] public section

noncomputable section

namespace Cert.Proof

open Idealize.ShloMosaic Idealize.ShloMosaic.ValueIdx Idealize.ShloMosaic.TcCoe Idealize.SL.Sem
open Cert.ReferenceIdeal Cert.ReferenceIdeal.Gen
open scoped BigOperators

/-- The reference's result, of the whole arrays. -/
def refOf (x : FVec Ideal S4096x4096 .bf16) (w : FVec Ideal S4096x8192 .bf16) : FVec Ideal S4096x8192 .bf16 := fun i =>
  epi (∑ k : Fin 4096, x (ix2 (i 0) k) * w (ix2 k (i 1)))

/-- The reference's product at an index. -/
theorem product_at (x : FVec Ideal S4096x4096 .bf16) (w : FVec Ideal S4096x8192 .bf16) (i : S4096x8192.Idx) :
    Host.dotGeneral dot_S4096x4096_S4096x8192_S4096x8192_1_0_0_1_n_n none x w i = ∑ k : Fin 4096, x (ix2 (i 0) k) * w (ix2 k (i 1)) := by
  obtain ⟨a, b, rfl⟩ : ∃ a b, i = ix2 (n0 := 4096) (n1 := 8192) a b := ⟨i 0, i 1, eq_ix2 i⟩
  exact StackMember.dotGeneral_plain_apply none x w a b

/-- The reference runs, leaves that result, and leaves its arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run m ρ)
  generalize m ((c.tc : Thread nD τ).loc main_arg0) = x
  generalize m ((c.tc : Thread nD τ).loc main_arg1) = w
  funext i
  unfold refOf
  rw [← product_at]
  rfl

end Cert.Proof

end
-- ==== Proof.Equation.lean ====
/-
  The two results are one array: a dot product over all 4096 columns of `x` is the sum, over the eight devices, of the dot
  products over each device's 512 columns.
-/
module

public import proofs.«01_k».proof.Proof.Reference
public import Idealize.ShloMosaic.Lib.Layout

@[expose] public section

noncomputable section

namespace Cert.Proof

open Idealize.ShloMosaic Idealize.ShloMosaic.ValueIdx
open Cert.KernelIdeal
open scoped BigOperators

/-- A sum over 4096 places is the sum over eight runs of 512. -/
theorem sum_runs {M : Type} [AddCommMonoid M] (f : Fin 4096 → M) :
    ∑ k, f k = ∑ e : Fin 8, ∑ k : Fin 512, f ⟨e.val * 512 + k.val, by omega⟩ := by
  rw [← Fintype.sum_prod_type', ← (finProdFinEquiv (m := 8) (n := 512)).sum_comp f]
  refine Finset.sum_congr rfl fun p _ => congrArg f (Fin.ext ?_)
  show p.2.val + 512 * p.1.val = p.1.val * 512 + p.2.val
  omega

variable (x : FVec Ideal Cert.ReferenceIdeal.S4096x4096 .bf16) (w : FVec Ideal Cert.ReferenceIdeal.S4096x8192 .bf16)
  (X : Dev nD → Vec Ideal S4096x512 .bf16) (Wt : Dev nD → Vec Ideal S512x8192 .bf16)

/-- Every device's result, of the devices' blocks of `x` and `w`, is the reference's. -/
theorem resOf_eq (hX : ∀ c, X c = Layout.block ⟨2, ![4096, 512]⟩ ⟨2, ![4096, 4096]⟩ 1 8 c x)
    (hW : ∀ c, Wt c = Layout.block ⟨2, ![512, 8192]⟩ ⟨2, ![4096, 8192]⟩ 0 8 c w) (c : Dev nD) : resOf X Wt c = refOf x w := by
  funext i
  obtain ⟨R, col, rfl⟩ : ∃ a b, i = ix2 (n0 := 4096) (n1 := 8192) a b := ⟨i 0, i 1, eq_ix2 i⟩
  rw [resOf_at]
  unfold refOf
  refine congrArg epi ?_
  rw [sum_runs]
  refine Finset.sum_congr rfl fun e _ => ?_
  unfold dotOf
  refine Finset.sum_congr rfl fun k _ => ?_
  rw [hX, hW, Layout.block_apply, Layout.block_apply]
  congr 1
  · refine congrArg x (funext fun a => ?_)
    fin_cases a <;> rfl
  · refine congrArg w (funext fun a => ?_)
    fin_cases a <;> rfl

end Cert.Proof

end
-- ==== Proof.lean ====
/-
  The proof of `Cert.Claim` (proofs.«01_k».proof.Defs): the kernel, read at its own float words and over the extended
  reals, runs, leaves its arguments as they were and every semaphore at zero; so does the reference; and over the extended
  reals the array every device ends with is the reference's.

  The run of the kernel is `run_main` (Proof/Launch.lean), stated and proved once for any float values, with what the result
  holds. Both frames are that run with the result dropped. The equation of the two results is `resOf_eq`
  (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel, at any float values, runs and leaves its arguments and semaphores as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_main m ρ)

/-- So it does over the extended reals. -/
theorem frame_kernelIdeal : Cert.quiescent_KernelIdeal := fun m ρ _ => frame_any (F := Ideal) m ρ

/-- So it does at its float words: the two programs are one text. -/
theorem frame_kernel : Cert.quiescent_Kernel := by
  intro m ρ _
  rw [defs_same]
  exact frame_any (F := Bits) m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (run_reference m ρ)

/-- Over the extended reals every device's result is the reference's. -/
theorem results : Cert.algebraic_KernelIdeal_ReferenceIdeal := fun m ρ m' ρ' _ hm =>
  ⟨_, (θ_run Cert.KernelIdeal.defs _ _).mono
      (fun _ h c => ⟨(h.1 c).1.trans (resOf_eq _ _ (xs m) (ws m) (fun c => (hm c).1) (fun c => (hm c).2) c), (h.1 c).2⟩)
      (run_main (F := Ideal) m ρ),
    (θ_run Cert.ReferenceIdeal.defs _ _).mono (fun _ h => h 0) (run_reference m' ρ')⟩

theorem claim : Cert.Claim := ⟨Cert.Kernel.Gen.facts, Cert.KernelIdeal.Gen.facts, Cert.ReferenceIdeal.Gen.facts,
  frame_kernel, frame_kernelIdeal, frame_reference, trivial, results⟩

end Cert.Proof

end
